-- ==== Defs.lean ====
def Pre_Kernel [hPre_src_in_range : Cert.Pre_src_in_range.Facts] (m : (ℓ : Loc Cert.Kernel.nD Cert.Kernel.τ Cert.Kernel.sig) → Buf (Elt Bits) ℓ) : Prop :=
  ∀ c : Dev Cert.Kernel.nD,
    (Cert.Pre_src_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_src_in_range : Cert.Pre_src_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_src_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_src_in_range [hPre_src_in_range : Cert.Pre_src_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_src_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_src_in_range : Cert.Pre_src_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_src_in_range : Cert.Pre_src_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_src_in_range [hReferenceIdeal : Cert.ReferenceIdeal.Facts] [hPre_src_in_range : Cert.Pre_src_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_src_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_src_in_range : Cert.Pre_src_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_src_in_range : Cert.Pre_src_in_range.Facts),
    quiescent_Kernel (hKernel := hKernel) (hPre_src_in_range := hPre_src_in_range)
    ∧ quiescent_KernelIdeal (hKernelIdeal := hKernelIdeal) (hPre_src_in_range := hPre_src_in_range)
    ∧ quiescent_ReferenceIdeal (hReferenceIdeal := hReferenceIdeal)
    ∧ quiescent_ReferenceIdeal_pre_src_in_range (hReferenceIdeal := hReferenceIdeal) (hPre_src_in_range := hPre_src_in_range)
    ∧ preserves_Kernel_KernelIdeal
    ∧ algebraic_KernelIdeal_ReferenceIdeal (hKernelIdeal := hKernelIdeal) (hReferenceIdeal := hReferenceIdeal) (hPre_src_in_range := hPre_src_in_range)
-- ==== Pre_src_in_range.lean ====
abbrev S8x900x91 : Shape := ⟨3, ![8, 900, 91]⟩
abbrev S8x900x4 : Shape := ⟨3, ![8, 900, 4]⟩
abbrev S8x25x4 : Shape := ⟨3, ![8, 25, 4]⟩
abbrev S8x25 : Shape := ⟨2, ![8, 25]⟩
abbrev S_ : Shape := ⟨0, ![]⟩

class Facts : Prop where
  bcast_S_S8x25 : S_.BroadcastsInDim S8x25 (![] : Fin 0 → Fin S8x25.rank)
  reducesTo_S8x25_S_d0_1 : S8x25.ReducesTo [0, 1] S_
  h_S_ : 0 < S_.numel

variable [Facts]

def fn {F : FTy → Type} [FloatOps F] (main_arg0 : FVec F S8x900x91 .f32) (main_arg1 : FVec F S8x900x4 .f32) (main_arg2 : FVec F S8x25x4 .f32) (main_arg3 : IVec S8x25 32) (main_arg4 : IVec S8x25 32) : IVec S_ 1 :=
  let main_c : IVec S_ 32 := constantI S_ 32 0#32
  let main_v0 : IVec S8x25 32 := broadcastInDim S8x25 ![] bcast_S_S8x25 main_c
  let main_v1 : IVec S8x25 1 := cmpi .sge main_arg4 main_v0
  let main_c_0 : IVec S_ 32 := constantI S_ 32 900#32
  let main_v2 : IVec S8x25 32 := broadcastInDim S8x25 ![] bcast_S_S8x25 main_c_0
  let main_v3 : IVec S8x25 1 := cmpi .slt main_arg4 main_v2
  let main_v4 : IVec S8x25 1 := andi main_v1 main_v3
  let main_c_1 : IVec S_ 1 := constantI S_ 1 1#1
  let main_v5 : IVec S_ 1 := (fun x v => Host.reduce IntOp.andi x v reducesTo_S8x25_S_d0_1 h_S_) main_v4 main_c_1
  main_v5
-- ==== Kernel.lean ====
abbrev S8x900x91 : Shape := ⟨3, ![8, 900, 91]⟩
abbrev S8x900x4 : Shape := ⟨3, ![8, 900, 4]⟩
abbrev S8x25x4 : Shape := ⟨3, ![8, 25, 4]⟩
abbrev S8x25 : Shape := ⟨2, ![8, 25]⟩
abbrev S8x25x1 : Shape := ⟨3, ![8, 25, 1]⟩
abbrev S8x1x25 : Shape := ⟨3, ![8, 1, 25]⟩
abbrev S1x91 : Shape := ⟨2, ![1, 91]⟩
abbrev S1x900x91 : Shape := ⟨3, ![1, 900, 91]⟩
abbrev S1x25x1 : Shape := ⟨3, ![1, 25, 1]⟩
abbrev S1x1x25 : Shape := ⟨3, ![1, 1, 25]⟩
abbrev S900x91 : Shape := ⟨2, ![900, 91]⟩
abbrev S25x1 : Shape := ⟨2, ![25, 1]⟩
abbrev S1x25 : Shape := ⟨2, ![1, 25]⟩
abbrev S25x25 : Shape := ⟨2, ![25, 25]⟩
abbrev S25 : Shape := ⟨1, ![25]⟩
abbrev S900x25 : Shape := ⟨2, ![900, 25]⟩
abbrev S900 : Shape := ⟨1, ![900]⟩
abbrev S900x1 : Shape := ⟨2, ![900, 1]⟩
abbrev S91 : Shape := ⟨1, ![91]⟩
abbrev S8 : Shape := ⟨1, ![8]⟩
abbrev S8x1 : Shape := ⟨2, ![8, 1]⟩
abbrev S_ : Shape := ⟨0, ![]⟩
abbrev S200 : Shape := ⟨1, ![200]⟩
abbrev S208 : Shape := ⟨1, ![208]⟩
abbrev S800 : Shape := ⟨1, ![800]⟩
abbrev S832 : Shape := ⟨1, ![832]⟩
abbrev S28800 : Shape := ⟨1, ![28800]⟩
abbrev S32 : Shape := ⟨1, ![32]⟩
abbrev S16 : Shape := ⟨1, ![16]⟩
abbrev S1 : Shape := ⟨1, ![1]⟩
abbrev S3 : Shape := ⟨1, ![3]⟩

abbrev nBuf : Table → Nat
  | .hbm => 44
  | .local .tc .vmem => 9
  | .local .scVector .vmem => 4
  | _ => 0

abbrev bufTy : (tb : Table) → Fin (nBuf tb) → BufTy
  | .hbm, ⟨0, _⟩ => ⟨S8x900x91, .f32⟩
  | .hbm, ⟨1, _⟩ => ⟨S8x900x4, .f32⟩
  | .hbm, ⟨2, _⟩ => ⟨S8x25x4, .f32⟩
  | .hbm, ⟨3, _⟩ => ⟨S8x25, .i32⟩
  | .hbm, ⟨4, _⟩ => ⟨S8x25, .i32⟩
  | .hbm, ⟨5, _⟩ => ⟨S8x25x1, .i32⟩
  | .hbm, ⟨6, _⟩ => ⟨S8x1x25, .i32⟩
  | .hbm, ⟨7, _⟩ => ⟨S8x1x25, .i32⟩
  | .hbm, ⟨8, _⟩ => ⟨S1x91, .f32⟩
  | .hbm, ⟨9, _⟩ => ⟨S8, .i32⟩
  | .hbm, ⟨10, _⟩ => ⟨S8x1, .i32⟩
  | .hbm, ⟨11, _⟩ => ⟨S_, .i32⟩
  | .hbm, ⟨12, _⟩ => ⟨S8x1, .i32⟩
  | .hbm, ⟨13, _⟩ => ⟨S8x1, .i32⟩
  | .hbm, ⟨14, _⟩ => ⟨S8x25, .i32⟩
  | .hbm, ⟨15, _⟩ => ⟨S8x25, .i32⟩
  | .hbm, ⟨16, _⟩ => ⟨S200, .i32⟩
  | .hbm, ⟨17, _⟩ => ⟨S_, .i32⟩
  | .hbm, ⟨18, _⟩ => ⟨S_, .i32⟩
  | .hbm, ⟨19, _⟩ => ⟨S208, .i32⟩
  | .hbm, ⟨20, _⟩ => ⟨S800, .f32⟩
  | .hbm, ⟨21, _⟩ => ⟨S_, .i32⟩
  | .hbm, ⟨22, _⟩ => ⟨S_, .f32⟩
  | .hbm, ⟨23, _⟩ => ⟨S832, .f32⟩
  | .hbm, ⟨24, _⟩ => ⟨S28800, .f32⟩
  | .hbm, ⟨25, _⟩ => ⟨S32, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S3, .f32⟩
  | .local .tc .vmem, ⟨0, _⟩ => ⟨S1x900x91, .f32⟩
  | .local .tc .vmem, ⟨1, _⟩ => ⟨S1x900x91, .f32⟩
  | .local .tc .vmem, ⟨2, _⟩ => ⟨S1x25x1, .i32⟩
  | .local .tc .vmem, ⟨3, _⟩ => ⟨S1x25x1, .i32⟩
  | .local .tc .vmem, ⟨4, _⟩ => ⟨S1x1x25, .i32⟩
  | .local .tc .vmem, ⟨5, _⟩ => ⟨S1x1x25, .i32⟩
  | .local .tc .vmem, ⟨6, _⟩ => ⟨S1x1x25, .i32⟩
  | .local .tc .vmem, ⟨7, _⟩ => ⟨S1x1x25, .i32⟩
  | .local .tc .vmem, ⟨8, _⟩ => ⟨S1x91, .f32⟩
  | .local .scVector .vmem, ⟨0, _⟩ => ⟨S28800, .f32⟩
  | .local .scVector .vmem, ⟨1, _⟩ => ⟨S832, .f32⟩
  | .local .scVector .vmem, ⟨2, _⟩ => ⟨S208, .i32⟩
  | .local .scVector .vmem, ⟨3, _⟩ => ⟨S32, .f32⟩
  | _, _ => ⟨S8x900x91, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v14_scv : Ref sig .scVector := ⟨.hbm, 24, rfl⟩
abbrev main_v13_scv : Ref sig .scVector := ⟨.hbm, 23, rfl⟩
abbrev main_v11_scv : Ref sig .scVector := ⟨.hbm, 19, rfl⟩
abbrev main_v15_scv : Ref sig .scVector := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x900x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x25 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x25 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x91 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k1_chk1 (i : grid1.Coords) (v16 : IVec S16 32) : Prop :=
  (∀ (k1_h1 : k1_cond1 i = 1#1), ∀ a x, ((![v16] : Fin 1 → IVec S16 32) a x).toNat < S28800.size a)
theorem k1_idx1_inb : ∀ (i : grid1.Coords) (v16 : IVec S16 32) (k1_hw1 : k1_chk1 i v16), ∀ (k1_h1 : k1_cond1 i = 1#1), ∀ a x, ((![v16] : Fin 1 → IVec S16 32) a x).toNat < S28800.size a := fun i v16 k1_hw1 k1_h1 => k1_hw1 k1_h1

def k1_chk2 (i : grid1.Coords) (v19 : IVec S16 32) : Prop :=
  (∀ (k1_h1 : k1_cond1 i = 1#1), ∀ a x, ((![v19] : Fin 1 → IVec S16 32) a x).toNat < S28800.size a)
theorem k1_idx2_inb : ∀ (i : grid1.Coords) (v19 : IVec S16 32) (k1_hw2 : k1_chk2 i v19), ∀ (k1_h1 : k1_cond1 i = 1#1), ∀ a x, ((![v19] : Fin 1 → IVec S16 32) a x).toNat < S28800.size a := fun i v19 k1_hw2 k1_h1 => k1_hw2 k1_h1

def k1_chk3 (i : grid1.Coords) (v22 : IVec S16 32) : Prop :=
  (∀ (k1_h1 : k1_cond1 i = 1#1), ∀ a x, ((![v22] : Fin 1 → IVec S16 32) a x).toNat < S28800.size a)
theorem k1_idx3_inb : ∀ (i : grid1.Coords) (v22 : IVec S16 32) (k1_hw3 : k1_chk3 i v22), ∀ (k1_h1 : k1_cond1 i = 1#1), ∀ a x, ((![v22] : Fin 1 → IVec S16 32) a x).toNat < S28800.size a := fun i v22 k1_hw3 k1_h1 => k1_hw3 k1_h1

def k1_chk4 (i : grid1.Coords) (v25 : IVec S16 32) : Prop :=
  (∀ (k1_h1 : k1_cond1 i = 1#1), ∀ a x, ((![v25] : Fin 1 → IVec S16 32) a x).toNat < S28800.size a)
theorem k1_idx4_inb : ∀ (i : grid1.Coords) (v25 : IVec S16 32) (k1_hw4 : k1_chk4 i v25), ∀ (k1_h1 : k1_cond1 i = 1#1), ∀ a x, ((![v25] : Fin 1 → IVec S16 32) a x).toNat < S28800.size a := fun i v25 k1_hw4 k1_h1 => k1_hw4 k1_h1

def k1_chk5 (i : grid1.Coords) (v28 : IVec S16 32) : Prop :=
  (∀ (k1_h1 : k1_cond1 i = 1#1), ∀ a x, ((![v28] : Fin 1 → IVec S16 32) a x).toNat < S832.size a)
theorem k1_idx5_inb : ∀ (i : grid1.Coords) (v28 : IVec S16 32) (k1_hw5 : k1_chk5 i v28), ∀ (k1_h1 : k1_cond1 i = 1#1), ∀ a x, ((![v28] : Fin 1 → IVec S16 32) a x).toNat < S832.size a := fun i v28 k1_hw5 k1_h1 => k1_hw5 k1_h1

def k1_chk6 (i : grid1.Coords) (v31 : IVec S16 32) : Prop :=
  (∀ (k1_h1 : k1_cond1 i = 1#1), ∀ a x, ((![v31] : Fin 1 → IVec S16 32) a x).toNat < S832.size a)
theorem k1_idx6_inb : ∀ (i : grid1.Coords) (v31 : IVec S16 32) (k1_hw6 : k1_chk6 i v31), ∀ (k1_h1 : k1_cond1 i = 1#1), ∀ a x, ((![v31] : Fin 1 → IVec S16 32) a x).toNat < S832.size a := fun i v31 k1_hw6 k1_h1 => k1_hw6 k1_h1

def k1_chk7 (i : grid1.Coords) (v34 : IVec S16 32) : Prop :=
  (∀ (k1_h1 : k1_cond1 i = 1#1), ∀ a x, ((![v34] : Fin 1 → IVec S16 32) a x).toNat < S832.size a)
theorem k1_idx7_inb : ∀ (i : grid1.Coords) (v34 : IVec S16 32) (k1_hw7 : k1_chk7 i v34), ∀ (k1_h1 : k1_cond1 i = 1#1), ∀ a x, ((![v34] : Fin 1 → IVec S16 32) a x).toNat < S832.size a := fun i v34 k1_hw7 k1_h1 => k1_hw7 k1_h1

def k1_chk8 (i : grid1.Coords) (v37 : IVec S16 32) : Prop :=
  (∀ (k1_h1 : k1_cond1 i = 1#1), ∀ a x, ((![v37] : Fin 1 → IVec S16 32) a x).toNat < S832.size a)
theorem k1_idx8_inb : ∀ (i : grid1.Coords) (v37 : IVec S16 32) (k1_hw8 : k1_chk8 i v37), ∀ (k1_h1 : k1_cond1 i = 1#1), ∀ a x, ((![v37] : Fin 1 → IVec S16 32) a x).toNat < S832.size a := fun i v37 k1_hw8 k1_h1 => k1_hw8 k1_h1

def k1_chk9 (i : grid1.Coords) (v120 : IVec S16 32) : Prop :=
  (∀ (k1_h1 : k1_cond1 i = 1#1), ∀ a x, ((![v120] : Fin 1 → IVec S16 32) a x).toNat < S28800.size a)
theorem k1_idx9_inb : ∀ (i : grid1.Coords) (v120 : IVec S16 32) (k1_hw9 : k1_chk9 i v120), ∀ (k1_h1 : k1_cond1 i = 1#1), ∀ a x, ((![v120] : Fin 1 → IVec S16 32) a x).toNat < S28800.size a := fun i v120 k1_hw9 k1_h1 => k1_hw9 k1_h1

def k1_chk10 (i : grid1.Coords) (v123 : IVec S16 32) : Prop :=
  (∀ (k1_h1 : k1_cond1 i = 1#1), ∀ a x, ((![v123] : Fin 1 → IVec S16 32) a x).toNat < S28800.size a)
theorem k1_idx10_inb : ∀ (i : grid1.Coords) (v123 : IVec S16 32) (k1_hw10 : k1_chk10 i v123), ∀ (k1_h1 : k1_cond1 i = 1#1), ∀ a x, ((![v123] : Fin 1 → IVec S16 32) a x).toNat < S28800.size a := fun i v123 k1_hw10 k1_h1 => k1_hw10 k1_h1

def k1_chk11 (i : grid1.Coords) (v126 : IVec S16 32) : Prop :=
  (∀ (k1_h1 : k1_cond1 i = 1#1), ∀ a x, ((![v126] : Fin 1 → IVec S16 32) a x).toNat < S28800.size a)
theorem k1_idx11_inb : ∀ (i : grid1.Coords) (v126 : IVec S16 32) (k1_hw11 : k1_chk11 i v126), ∀ (k1_h1 : k1_cond1 i = 1#1), ∀ a x, ((![v126] : Fin 1 → IVec S16 32) a x).toNat < S28800.size a := fun i v126 k1_hw11 k1_h1 => k1_hw11 k1_h1

def k1_chk12 (i : grid1.Coords) (v129 : IVec S16 32) : Prop :=
  (∀ (k1_h1 : k1_cond1 i = 1#1), ∀ a x, ((![v129] : Fin 1 → IVec S16 32) a x).toNat < S28800.size a)
theorem k1_idx12_inb : ∀ (i : grid1.Coords) (v129 : IVec S16 32) (k1_hw12 : k1_chk12 i v129), ∀ (k1_h1 : k1_cond1 i = 1#1), ∀ a x, ((![v129] : Fin 1 → IVec S16 32) a x).toNat < S28800.size a := fun i v129 k1_hw12 k1_h1 => k1_hw12 k1_h1

def k1_chk13 (i : grid1.Coords) (v132 : IVec S16 32) : Prop :=
  (∀ (k1_h1 : k1_cond1 i = 1#1), ∀ a x, ((![v132] : Fin 1 → IVec S16 32) a x).toNat < S832.size a)
theorem k1_idx13_inb : ∀ (i : grid1.Coords) (v132 : IVec S16 32) (k1_hw13 : k1_chk13 i v132), ∀ (k1_h1 : k1_cond1 i = 1#1), ∀ a x, ((![v132] : Fin 1 → IVec S16 32) a x).toNat < S832.size a := fun i v132 k1_hw13 k1_h1 => k1_hw13 k1_h1

def k1_chk14 (i : grid1.Coords) (v135 : IVec S16 32) : Prop :=
  (∀ (k1_h1 : k1_cond1 i = 1#1), ∀ a x, ((![v135] : Fin 1 → IVec S16 32) a x).toNat < S832.size a)
theorem k1_idx14_inb : ∀ (i : grid1.Coords) (v135 : IVec S16 32) (k1_hw14 : k1_chk14 i v135), ∀ (k1_h1 : k1_cond1 i = 1#1), ∀ a x, ((![v135] : Fin 1 → IVec S16 32) a x).toNat < S832.size a := fun i v135 k1_hw14 k1_h1 => k1_hw14 k1_h1

def k1_chk15 (i : grid1.Coords) (v138 : IVec S16 32) : Prop :=
  (∀ (k1_h1 : k1_cond1 i = 1#1), ∀ a x, ((![v138] : Fin 1 → IVec S16 32) a x).toNat < S832.size a)
theorem k1_idx15_inb : ∀ (i : grid1.Coords) (v138 : IVec S16 32) (k1_hw15 : k1_chk15 i v138), ∀ (k1_h1 : k1_cond1 i = 1#1), ∀ a x, ((![v138] : Fin 1 → IVec S16 32) a x).toNat < S832.size a := fun i v138 k1_hw15 k1_h1 => k1_hw15 k1_h1

def k1_chk16 (i : grid1.Coords) (v141 : IVec S16 32) : Prop :=
  (∀ (k1_h1 : k1_cond1 i = 1#1), ∀ a x, ((![v141] : Fin 1 → IVec S16 32) a x).toNat < S832.size a)
theorem k1_idx16_inb : ∀ (i : grid1.Coords) (v141 : IVec S16 32) (k1_hw16 : k1_chk16 i v141), ∀ (k1_h1 : k1_cond1 i = 1#1), ∀ a x, ((![v141] : Fin 1 → IVec S16 32) a x).toNat < S832.size a := fun i v141 k1_hw16 k1_h1 => k1_hw16 k1_h1

def k1_chk17 (i : grid1.Coords) (v224 : IVec S16 32) : Prop :=
  (∀ (k1_h1 : k1_cond1 i = 1#1), ∀ a x, ((![v224] : Fin 1 → IVec S16 32) a x).toNat < S28800.size a)
theorem k1_idx17_inb : ∀ (i : grid1.Coords) (v224 : IVec S16 32) (k1_hw17 : k1_chk17 i v224), ∀ (k1_h1 : k1_cond1 i = 1#1), ∀ a x, ((![v224] : Fin 1 → IVec S16 32) a x).toNat < S28800.size a := fun i v224 k1_hw17 k1_h1 => k1_hw17 k1_h1

def k1_chk18 (i : grid1.Coords) (v227 : IVec S16 32) : Prop :=
  (∀ (k1_h1 : k1_cond1 i = 1#1), ∀ a x, ((![v227] : Fin 1 → IVec S16 32) a x).toNat < S28800.size a)
theorem k1_idx18_inb : ∀ (i : grid1.Coords) (v227 : IVec S16 32) (k1_hw18 : k1_chk18 i v227), ∀ (k1_h1 : k1_cond1 i = 1#1), ∀ a x, ((![v227] : Fin 1 → IVec S16 32) a x).toNat < S28800.size a := fun i v227 k1_hw18 k1_h1 => k1_hw18 k1_h1

def k1_chk19 (i : grid1.Coords) (v230 : IVec S16 32) : Prop :=
  (∀ (k1_h1 : k1_cond1 i = 1#1), ∀ a x, ((![v230] : Fin 1 → IVec S16 32) a x).toNat < S28800.size a)
theorem k1_idx19_inb : ∀ (i : grid1.Coords) (v230 : IVec S16 32) (k1_hw19 : k1_chk19 i v230), ∀ (k1_h1 : k1_cond1 i = 1#1), ∀ a x, ((![v230] : Fin 1 → IVec S16 32) a x).toNat < S28800.size a := fun i v230 k1_hw19 k1_h1 => k1_hw19 k1_h1

def k1_chk20 (i : grid1.Coords) (v233 : IVec S16 32) : Prop :=
  (∀ (k1_h1 : k1_cond1 i = 1#1), ∀ a x, ((![v233] : Fin 1 → IVec S16 32) a x).toNat < S28800.size a)
theorem k1_idx20_inb : ∀ (i : grid1.Coords) (v233 : IVec S16 32) (k1_hw20 : k1_chk20 i v233), ∀ (k1_h1 : k1_cond1 i = 1#1), ∀ a x, ((![v233] : Fin 1 → IVec S16 32) a x).toNat < S28800.size a := fun i v233 k1_hw20 k1_h1 => k1_hw20 k1_h1

def k1_chk21 (i : grid1.Coords) (v236 : IVec S16 32) : Prop :=
  (∀ (k1_h1 : k1_cond1 i = 1#1), ∀ a x, ((![v236] : Fin 1 → IVec S16 32) a x).toNat < S832.size a)
theorem k1_idx21_inb : ∀ (i : grid1.Coords) (v236 : IVec S16 32) (k1_hw21 : k1_chk21 i v236), ∀ (k1_h1 : k1_cond1 i = 1#1), ∀ a x, ((![v236] : Fin 1 → IVec S16 32) a x).toNat < S832.size a := fun i v236 k1_hw21 k1_h1 => k1_hw21 k1_h1

def k1_chk22 (i : grid1.Coords) (v239 : IVec S16 32) : Prop :=
  (∀ (k1_h1 : k1_cond1 i = 1#1), ∀ a x, ((![v239] : Fin 1 → IVec S16 32) a x).toNat < S832.size a)
theorem k1_idx22_inb : ∀ (i : grid1.Coords) (v239 : IVec S16 32) (k1_hw22 : k1_chk22 i v239), ∀ (k1_h1 : k1_cond1 i = 1#1), ∀ a x, ((![v239] : Fin 1 → IVec S16 32) a x).toNat < S832.size a := fun i v239 k1_hw22 k1_h1 => k1_hw22 k1_h1

def k1_chk23 (i : grid1.Coords) (v242 : IVec S16 32) : Prop :=
  (∀ (k1_h1 : k1_cond1 i = 1#1), ∀ a x, ((![v242] : Fin 1 → IVec S16 32) a x).toNat < S832.size a)
theorem k1_idx23_inb : ∀ (i : grid1.Coords) (v242 : IVec S16 32) (k1_hw23 : k1_chk23 i v242), ∀ (k1_h1 : k1_cond1 i = 1#1), ∀ a x, ((![v242] : Fin 1 → IVec S16 32) a x).toNat < S832.size a := fun i v242 k1_hw23 k1_h1 => k1_hw23 k1_h1

def k1_chk24 (i : grid1.Coords) (v245 : IVec S16 32) : Prop :=
  (∀ (k1_h1 : k1_cond1 i = 1#1), ∀ a x, ((![v245] : Fin 1 → IVec S16 32) a x).toNat < S832.size a)
theorem k1_idx24_inb : ∀ (i : grid1.Coords) (v245 : IVec S16 32) (k1_hw24 : k1_chk24 i v245), ∀ (k1_h1 : k1_cond1 i = 1#1), ∀ a x, ((![v245] : Fin 1 → IVec S16 32) a x).toNat < S832.size a := fun i v245 k1_hw24 k1_h1 => k1_hw24 k1_h1

def k1_chk25 (i : grid1.Coords) (v328 : IVec S16 32) : Prop :=
  (∀ (k1_h1 : k1_cond1 i = 1#1), ∀ a x, ((![v328] : Fin 1 → IVec S16 32) a x).toNat < S28800.size a)
theorem k1_idx25_inb : ∀ (i : grid1.Coords) (v328 : IVec S16 32) (k1_hw25 : k1_chk25 i v328), ∀ (k1_h1 : k1_cond1 i = 1#1), ∀ a x, ((![v328] : Fin 1 → IVec S16 32) a x).toNat < S28800.size a := fun i v328 k1_hw25 k1_h1 => k1_hw25 k1_h1

def k1_chk26 (i : grid1.Coords) (v331 : IVec S16 32) : Prop :=
  (∀ (k1_h1 : k1_cond1 i = 1#1), ∀ a x, ((![v331] : Fin 1 → IVec S16 32) a x).toNat < S28800.size a)
theorem k1_idx26_inb : ∀ (i : grid1.Coords) (v331 : IVec S16 32) (k1_hw26 : k1_chk26 i v331), ∀ (k1_h1 : k1_cond1 i = 1#1), ∀ a x, ((![v331] : Fin 1 → IVec S16 32) a x).toNat < S28800.size a := fun i v331 k1_hw26 k1_h1 => k1_hw26 k1_h1

def k1_chk27 (i : grid1.Coords) (v334 : IVec S16 32) : Prop :=
  (∀ (k1_h1 : k1_cond1 i = 1#1), ∀ a x, ((![v334] : Fin 1 → IVec S16 32) a x).toNat < S28800.size a)
theorem k1_idx27_inb : ∀ (i : grid1.Coords) (v334 : IVec S16 32) (k1_hw27 : k1_chk27 i v334), ∀ (k1_h1 : k1_cond1 i = 1#1), ∀ a x, ((![v334] : Fin 1 → IVec S16 32) a x).toNat < S28800.size a := fun i v334 k1_hw27 k1_h1 => k1_hw27 k1_h1

def k1_chk28 (i : grid1.Coords) (v337 : IVec S16 32) : Prop :=
  (∀ (k1_h1 : k1_cond1 i = 1#1), ∀ a x, ((![v337] : Fin 1 → IVec S16 32) a x).toNat < S28800.size a)
theorem k1_idx28_inb : ∀ (i : grid1.Coords) (v337 : IVec S16 32) (k1_hw28 : k1_chk28 i v337), ∀ (k1_h1 : k1_cond1 i = 1#1), ∀ a x, ((![v337] : Fin 1 → IVec S16 32) a x).toNat < S28800.size a := fun i v337 k1_hw28 k1_h1 => k1_hw28 k1_h1

def k1_chk29 (i : grid1.Coords) (v340 : IVec S16 32) : Prop :=
  (∀ (k1_h1 : k1_cond1 i = 1#1), ∀ a x, ((![v340] : Fin 1 → IVec S16 32) a x).toNat < S832.size a)
theorem k1_idx29_inb : ∀ (i : grid1.Coords) (v340 : IVec S16 32) (k1_hw29 : k1_chk29 i v340), ∀ (k1_h1 : k1_cond1 i = 1#1), ∀ a x, ((![v340] : Fin 1 → IVec S16 32) a x).toNat < S832.size a := fun i v340 k1_hw29 k1_h1 => k1_hw29 k1_h1

def k1_chk30 (i : grid1.Coords) (v343 : IVec S16 32) : Prop :=
  (∀ (k1_h1 : k1_cond1 i = 1#1), ∀ a x, ((![v343] : Fin 1 → IVec S16 32) a x).toNat < S832.size a)
theorem k1_idx30_inb : ∀ (i : grid1.Coords) (v343 : IVec S16 32) (k1_hw30 : k1_chk30 i v343), ∀ (k1_h1 : k1_cond1 i = 1#1), ∀ a x, ((![v343] : Fin 1 → IVec S16 32) a x).toNat < S832.size a := fun i v343 k1_hw30 k1_h1 => k1_hw30 k1_h1

def k1_chk31 (i : grid1.Coords) (v346 : IVec S16 32) : Prop :=
  (∀ (k1_h1 : k1_cond1 i = 1#1), ∀ a x, ((![v346] : Fin 1 → IVec S16 32) a x).toNat < S832.size a)
theorem k1_idx31_inb : ∀ (i : grid1.Coords) (v346 : IVec S16 32) (k1_hw31 : k1_chk31 i v346), ∀ (k1_h1 : k1_cond1 i = 1#1), ∀ a x, ((![v346] : Fin 1 → IVec S16 32) a x).toNat < S832.size a := fun i v346 k1_hw31 k1_h1 => k1_hw31 k1_h1

def k1_chk32 (i : grid1.Coords) (v349 : IVec S16 32) : Prop :=
  (∀ (k1_h1 : k1_cond1 i = 1#1), ∀ a x, ((![v349] : Fin 1 → IVec S16 32) a x).toNat < S832.size a)
theorem k1_idx32_inb : ∀ (i : grid1.Coords) (v349 : IVec S16 32) (k1_hw32 : k1_chk32 i v349), ∀ (k1_h1 : k1_cond1 i = 1#1), ∀ a x, ((![v349] : Fin 1 → IVec S16 32) a x).toNat < S832.size a := fun i v349 k1_hw32 k1_h1 => k1_hw32 k1_h1

def k1_chk33 (i : grid1.Coords) (v432 : IVec S16 32) : Prop :=
  (∀ (k1_h1 : k1_cond1 i = 1#1), ∀ a x, ((![v432] : Fin 1 → IVec S16 32) a x).toNat < S28800.size a)
theorem k1_idx33_inb : ∀ (i : grid1.Coords) (v432 : IVec S16 32) (k1_hw33 : k1_chk33 i v432), ∀ (k1_h1 : k1_cond1 i = 1#1), ∀ a x, ((![v432] : Fin 1 → IVec S16 32) a x).toNat < S28800.size a := fun i v432 k1_hw33 k1_h1 => k1_hw33 k1_h1

def k1_chk34 (i : grid1.Coords) (v435 : IVec S16 32) : Prop :=
  (∀ (k1_h1 : k1_cond1 i = 1#1), ∀ a x, ((![v435] : Fin 1 → IVec S16 32) a x).toNat < S28800.size a)
theorem k1_idx34_inb : ∀ (i : grid1.Coords) (v435 : IVec S16 32) (k1_hw34 : k1_chk34 i v435), ∀ (k1_h1 : k1_cond1 i = 1#1), ∀ a x, ((![v435] : Fin 1 → IVec S16 32) a x).toNat < S28800.size a := fun i v435 k1_hw34 k1_h1 => k1_hw34 k1_h1

def k1_chk35 (i : grid1.Coords) (v438 : IVec S16 32) : Prop :=
  (∀ (k1_h1 : k1_cond1 i = 1#1), ∀ a x, ((![v438] : Fin 1 → IVec S16 32) a x).toNat < S28800.size a)
theorem k1_idx35_inb : ∀ (i : grid1.Coords) (v438 : IVec S16 32) (k1_hw35 : k1_chk35 i v438), ∀ (k1_h1 : k1_cond1 i = 1#1), ∀ a x, ((![v438] : Fin 1 → IVec S16 32) a x).toNat < S28800.size a := fun i v438 k1_hw35 k1_h1 => k1_hw35 k1_h1

def k1_chk36 (i : grid1.Coords) (v441 : IVec S16 32) : Prop :=
  (∀ (k1_h1 : k1_cond1 i = 1#1), ∀ a x, ((![v441] : Fin 1 → IVec S16 32) a x).toNat < S28800.size a)
theorem k1_idx36_inb : ∀ (i : grid1.Coords) (v441 : IVec S16 32) (k1_hw36 : k1_chk36 i v441), ∀ (k1_h1 : k1_cond1 i = 1#1), ∀ a x, ((![v441] : Fin 1 → IVec S16 32) a x).toNat < S28800.size a := fun i v441 k1_hw36 k1_h1 => k1_hw36 k1_h1

def k1_chk37 (i : grid1.Coords) (v444 : IVec S16 32) : Prop :=
  (∀ (k1_h1 : k1_cond1 i = 1#1), ∀ a x, ((![v444] : Fin 1 → IVec S16 32) a x).toNat < S832.size a)
theorem k1_idx37_inb : ∀ (i : grid1.Coords) (v444 : IVec S16 32) (k1_hw37 : k1_chk37 i v444), ∀ (k1_h1 : k1_cond1 i = 1#1), ∀ a x, ((![v444] : Fin 1 → IVec S16 32) a x).toNat < S832.size a := fun i v444 k1_hw37 k1_h1 => k1_hw37 k1_h1

def k1_chk38 (i : grid1.Coords) (v447 : IVec S16 32) : Prop :=
  (∀ (k1_h1 : k1_cond1 i = 1#1), ∀ a x, ((![v447] : Fin 1 → IVec S16 32) a x).toNat < S832.size a)
theorem k1_idx38_inb : ∀ (i : grid1.Coords) (v447 : IVec S16 32) (k1_hw38 : k1_chk38 i v447), ∀ (k1_h1 : k1_cond1 i = 1#1), ∀ a x, ((![v447] : Fin 1 → IVec S16 32) a x).toNat < S832.size a := fun i v447 k1_hw38 k1_h1 => k1_hw38 k1_h1

def k1_chk39 (i : grid1.Coords) (v450 : IVec S16 32) : Prop :=
  (∀ (k1_h1 : k1_cond1 i = 1#1), ∀ a x, ((![v450] : Fin 1 → IVec S16 32) a x).toNat < S832.size a)
theorem k1_idx39_inb : ∀ (i : grid1.Coords) (v450 : IVec S16 32) (k1_hw39 : k1_chk39 i v450), ∀ (k1_h1 : k1_cond1 i = 1#1), ∀ a x, ((![v450] : Fin 1 → IVec S16 32) a x).toNat < S832.size a := fun i v450 k1_hw39 k1_h1 => k1_hw39 k1_h1

def k1_chk40 (i : grid1.Coords) (v453 : IVec S16 32) : Prop :=
  (∀ (k1_h1 : k1_cond1 i = 1#1), ∀ a x, ((![v453] : Fin 1 → IVec S16 32) a x).toNat < S832.size a)
theorem k1_idx40_inb : ∀ (i : grid1.Coords) (v453 : IVec S16 32) (k1_hw40 : k1_chk40 i v453), ∀ (k1_h1 : k1_cond1 i = 1#1), ∀ a x, ((![v453] : Fin 1 → IVec S16 32) a x).toNat < S832.size a := fun i v453 k1_hw40 k1_h1 => k1_hw40 k1_h1

def k1_chk41 (i : grid1.Coords) (v536 : IVec S16 32) : Prop :=
  (∀ (k1_h1 : k1_cond1 i = 1#1), ∀ a x, ((![v536] : Fin 1 → IVec S16 32) a x).toNat < S28800.size a)
theorem k1_idx41_inb : ∀ (i : grid1.Coords) (v536 : IVec S16 32) (k1_hw41 : k1_chk41 i v536), ∀ (k1_h1 : k1_cond1 i = 1#1), ∀ a x, ((![v536] : Fin 1 → IVec S16 32) a x).toNat < S28800.size a := fun i v536 k1_hw41 k1_h1 => k1_hw41 k1_h1

def k1_chk42 (i : grid1.Coords) (v539 : IVec S16 32) : Prop :=
  (∀ (k1_h1 : k1_cond1 i = 1#1), ∀ a x, ((![v539] : Fin 1 → IVec S16 32) a x).toNat < S28800.size a)
theorem k1_idx42_inb : ∀ (i : grid1.Coords) (v539 : IVec S16 32) (k1_hw42 : k1_chk42 i v539), ∀ (k1_h1 : k1_cond1 i = 1#1), ∀ a x, ((![v539] : Fin 1 → IVec S16 32) a x).toNat < S28800.size a := fun i v539 k1_hw42 k1_h1 => k1_hw42 k1_h1

def k1_chk43 (i : grid1.Coords) (v542 : IVec S16 32) : Prop :=
  (∀ (k1_h1 : k1_cond1 i = 1#1), ∀ a x, ((![v542] : Fin 1 → IVec S16 32) a x).toNat < S28800.size a)
theorem k1_idx43_inb : ∀ (i : grid1.Coords) (v542 : IVec S16 32) (k1_hw43 : k1_chk43 i v542), ∀ (k1_h1 : k1_cond1 i = 1#1), ∀ a x, ((![v542] : Fin 1 → IVec S16 32) a x).toNat < S28800.size a := fun i v542 k1_hw43 k1_h1 => k1_hw43 k1_h1

def k1_chk44 (i : grid1.Coords) (v545 : IVec S16 32) : Prop :=
  (∀ (k1_h1 : k1_cond1 i = 1#1), ∀ a x, ((![v545] : Fin 1 → IVec S16 32) a x).toNat < S28800.size a)
theorem k1_idx44_inb : ∀ (i : grid1.Coords) (v545 : IVec S16 32) (k1_hw44 : k1_chk44 i v545), ∀ (k1_h1 : k1_cond1 i = 1#1), ∀ a x, ((![v545] : Fin 1 → IVec S16 32) a x).toNat < S28800.size a := fun i v545 k1_hw44 k1_h1 => k1_hw44 k1_h1

def k1_chk45 (i : grid1.Coords) (v548 : IVec S16 32) : Prop :=
  (∀ (k1_h1 : k1_cond1 i = 1#1), ∀ a x, ((![v548] : Fin 1 → IVec S16 32) a x).toNat < S832.size a)
theorem k1_idx45_inb : ∀ (i : grid1.Coords) (v548 : IVec S16 32) (k1_hw45 : k1_chk45 i v548), ∀ (k1_h1 : k1_cond1 i = 1#1), ∀ a x, ((![v548] : Fin 1 → IVec S16 32) a x).toNat < S832.size a := fun i v548 k1_hw45 k1_h1 => k1_hw45 k1_h1

def k1_chk46 (i : grid1.Coords) (v551 : IVec S16 32) : Prop :=
  (∀ (k1_h1 : k1_cond1 i = 1#1), ∀ a x, ((![v551] : Fin 1 → IVec S16 32) a x).toNat < S832.size a)
theorem k1_idx46_inb : ∀ (i : grid1.Coords) (v551 : IVec S16 32) (k1_hw46 : k1_chk46 i v551), ∀ (k1_h1 : k1_cond1 i = 1#1), ∀ a x, ((![v551] : Fin 1 → IVec S16 32) a x).toNat < S832.size a := fun i v551 k1_hw46 k1_h1 => k1_hw46 k1_h1

def k1_chk47 (i : grid1.Coords) (v554 : IVec S16 32) : Prop :=
  (∀ (k1_h1 : k1_cond1 i = 1#1), ∀ a x, ((![v554] : Fin 1 → IVec S16 32) a x).toNat < S832.size a)
theorem k1_idx47_inb : ∀ (i : grid1.Coords) (v554 : IVec S16 32) (k1_hw47 : k1_chk47 i v554), ∀ (k1_h1 : k1_cond1 i = 1#1), ∀ a x, ((![v554] : Fin 1 → IVec S16 32) a x).toNat < S832.size a := fun i v554 k1_hw47 k1_h1 => k1_hw47 k1_h1

def k1_chk48 (i : grid1.Coords) (v557 : IVec S16 32) : Prop :=
  (∀ (k1_h1 : k1_cond1 i = 1#1), ∀ a x, ((![v557] : Fin 1 → IVec S16 32) a x).toNat < S832.size a)
theorem k1_idx48_inb : ∀ (i : grid1.Coords) (v557 : IVec S16 32) (k1_hw48 : k1_chk48 i v557), ∀ (k1_h1 : k1_cond1 i = 1#1), ∀ a x, ((![v557] : Fin 1 → IVec S16 32) a x).toNat < S832.size a := fun i v557 k1_hw48 k1_h1 => k1_hw48 k1_h1

def k1_chk49 (i : grid1.Coords) (v640 : IVec S16 32) : Prop :=
  (∀ (k1_h1 : k1_cond1 i = 1#1), ∀ a x, ((![v640] : Fin 1 → IVec S16 32) a x).toNat < S28800.size a)
theorem k1_idx49_inb : ∀ (i : grid1.Coords) (v640 : IVec S16 32) (k1_hw49 : k1_chk49 i v640), ∀ (k1_h1 : k1_cond1 i = 1#1), ∀ a x, ((![v640] : Fin 1 → IVec S16 32) a x).toNat < S28800.size a := fun i v640 k1_hw49 k1_h1 => k1_hw49 k1_h1

def k1_chk50 (i : grid1.Coords) (v643 : IVec S16 32) : Prop :=
  (∀ (k1_h1 : k1_cond1 i = 1#1), ∀ a x, ((![v643] : Fin 1 → IVec S16 32) a x).toNat < S28800.size a)
theorem k1_idx50_inb : ∀ (i : grid1.Coords) (v643 : IVec S16 32) (k1_hw50 : k1_chk50 i v643), ∀ (k1_h1 : k1_cond1 i = 1#1), ∀ a x, ((![v643] : Fin 1 → IVec S16 32) a x).toNat < S28800.size a := fun i v643 k1_hw50 k1_h1 => k1_hw50 k1_h1

def k1_chk51 (i : grid1.Coords) (v646 : IVec S16 32) : Prop :=
  (∀ (k1_h1 : k1_cond1 i = 1#1), ∀ a x, ((![v646] : Fin 1 → IVec S16 32) a x).toNat < S28800.size a)
theorem k1_idx51_inb : ∀ (i : grid1.Coords) (v646 : IVec S16 32) (k1_hw51 : k1_chk51 i v646), ∀ (k1_h1 : k1_cond1 i = 1#1), ∀ a x, ((![v646] : Fin 1 → IVec S16 32) a x).toNat < S28800.size a := fun i v646 k1_hw51 k1_h1 => k1_hw51 k1_h1

def k1_chk52 (i : grid1.Coords) (v649 : IVec S16 32) : Prop :=
  (∀ (k1_h1 : k1_cond1 i = 1#1), ∀ a x, ((![v649] : Fin 1 → IVec S16 32) a x).toNat < S28800.size a)
theorem k1_idx52_inb : ∀ (i : grid1.Coords) (v649 : IVec S16 32) (k1_hw52 : k1_chk52 i v649), ∀ (k1_h1 : k1_cond1 i = 1#1), ∀ a x, ((![v649] : Fin 1 → IVec S16 32) a x).toNat < S28800.size a := fun i v649 k1_hw52 k1_h1 => k1_hw52 k1_h1

def k1_chk53 (i : grid1.Coords) (v652 : IVec S16 32) : Prop :=
  (∀ (k1_h1 : k1_cond1 i = 1#1), ∀ a x, ((![v652] : Fin 1 → IVec S16 32) a x).toNat < S832.size a)
theorem k1_idx53_inb : ∀ (i : grid1.Coords) (v652 : IVec S16 32) (k1_hw53 : k1_chk53 i v652), ∀ (k1_h1 : k1_cond1 i = 1#1), ∀ a x, ((![v652] : Fin 1 → IVec S16 32) a x).toNat < S832.size a := fun i v652 k1_hw53 k1_h1 => k1_hw53 k1_h1

def k1_chk54 (i : grid1.Coords) (v655 : IVec S16 32) : Prop :=
  (∀ (k1_h1 : k1_cond1 i = 1#1), ∀ a x, ((![v655] : Fin 1 → IVec S16 32) a x).toNat < S832.size a)
theorem k1_idx54_inb : ∀ (i : grid1.Coords) (v655 : IVec S16 32) (k1_hw54 : k1_chk54 i v655), ∀ (k1_h1 : k1_cond1 i = 1#1), ∀ a x, ((![v655] : Fin 1 → IVec S16 32) a x).toNat < S832.size a := fun i v655 k1_hw54 k1_h1 => k1_hw54 k1_h1

def k1_chk55 (i : grid1.Coords) (v658 : IVec S16 32) : Prop :=
  (∀ (k1_h1 : k1_cond1 i = 1#1), ∀ a x, ((![v658] : Fin 1 → IVec S16 32) a x).toNat < S832.size a)
theorem k1_idx55_inb : ∀ (i : grid1.Coords) (v658 : IVec S16 32) (k1_hw55 : k1_chk55 i v658), ∀ (k1_h1 : k1_cond1 i = 1#1), ∀ a x, ((![v658] : Fin 1 → IVec S16 32) a x).toNat < S832.size a := fun i v658 k1_hw55 k1_h1 => k1_hw55 k1_h1

def k1_chk56 (i : grid1.Coords) (v661 : IVec S16 32) : Prop :=
  (∀ (k1_h1 : k1_cond1 i = 1#1), ∀ a x, ((![v661] : Fin 1 → IVec S16 32) a x).toNat < S832.size a)
theorem k1_idx56_inb : ∀ (i : grid1.Coords) (v661 : IVec S16 32) (k1_hw56 : k1_chk56 i v661), ∀ (k1_h1 : k1_cond1 i = 1#1), ∀ a x, ((![v661] : Fin 1 → IVec S16 32) a x).toNat < S832.size a := fun i v661 k1_hw56 k1_h1 => k1_hw56 k1_h1

def k1_chk57 (i : grid1.Coords) (v744 : IVec S16 32) : Prop :=
  (∀ (k1_h1 : k1_cond1 i = 1#1), ∀ a x, ((![v744] : Fin 1 → IVec S16 32) a x).toNat < S28800.size a)
theorem k1_idx57_inb : ∀ (i : grid1.Coords) (v744 : IVec S16 32) (k1_hw57 : k1_chk57 i v744), ∀ (k1_h1 : k1_cond1 i = 1#1), ∀ a x, ((![v744] : Fin 1 → IVec S16 32) a x).toNat < S28800.size a := fun i v744 k1_hw57 k1_h1 => k1_hw57 k1_h1

def k1_chk58 (i : grid1.Coords) (v747 : IVec S16 32) : Prop :=
  (∀ (k1_h1 : k1_cond1 i = 1#1), ∀ a x, ((![v747] : Fin 1 → IVec S16 32) a x).toNat < S28800.size a)
theorem k1_idx58_inb : ∀ (i : grid1.Coords) (v747 : IVec S16 32) (k1_hw58 : k1_chk58 i v747), ∀ (k1_h1 : k1_cond1 i = 1#1), ∀ a x, ((![v747] : Fin 1 → IVec S16 32) a x).toNat < S28800.size a := fun i v747 k1_hw58 k1_h1 => k1_hw58 k1_h1

def k1_chk59 (i : grid1.Coords) (v750 : IVec S16 32) : Prop :=
  (∀ (k1_h1 : k1_cond1 i = 1#1), ∀ a x, ((![v750] : Fin 1 → IVec S16 32) a x).toNat < S28800.size a)
theorem k1_idx59_inb : ∀ (i : grid1.Coords) (v750 : IVec S16 32) (k1_hw59 : k1_chk59 i v750), ∀ (k1_h1 : k1_cond1 i = 1#1), ∀ a x, ((![v750] : Fin 1 → IVec S16 32) a x).toNat < S28800.size a := fun i v750 k1_hw59 k1_h1 => k1_hw59 k1_h1

def k1_chk60 (i : grid1.Coords) (v753 : IVec S16 32) : Prop :=
  (∀ (k1_h1 : k1_cond1 i = 1#1), ∀ a x, ((![v753] : Fin 1 → IVec S16 32) a x).toNat < S28800.size a)
theorem k1_idx60_inb : ∀ (i : grid1.Coords) (v753 : IVec S16 32) (k1_hw60 : k1_chk60 i v753), ∀ (k1_h1 : k1_cond1 i = 1#1), ∀ a x, ((![v753] : Fin 1 → IVec S16 32) a x).toNat < S28800.size a := fun i v753 k1_hw60 k1_h1 => k1_hw60 k1_h1

def k1_chk61 (i : grid1.Coords) (v756 : IVec S16 32) : Prop :=
  (∀ (k1_h1 : k1_cond1 i = 1#1), ∀ a x, ((![v756] : Fin 1 → IVec S16 32) a x).toNat < S832.size a)
theorem k1_idx61_inb : ∀ (i : grid1.Coords) (v756 : IVec S16 32) (k1_hw61 : k1_chk61 i v756), ∀ (k1_h1 : k1_cond1 i = 1#1), ∀ a x, ((![v756] : Fin 1 → IVec S16 32) a x).toNat < S832.size a := fun i v756 k1_hw61 k1_h1 => k1_hw61 k1_h1

def k1_chk62 (i : grid1.Coords) (v759 : IVec S16 32) : Prop :=
  (∀ (k1_h1 : k1_cond1 i = 1#1), ∀ a x, ((![v759] : Fin 1 → IVec S16 32) a x).toNat < S832.size a)
theorem k1_idx62_inb : ∀ (i : grid1.Coords) (v759 : IVec S16 32) (k1_hw62 : k1_chk62 i v759), ∀ (k1_h1 : k1_cond1 i = 1#1), ∀ a x, ((![v759] : Fin 1 → IVec S16 32) a x).toNat < S832.size a := fun i v759 k1_hw62 k1_h1 => k1_hw62 k1_h1

def k1_chk63 (i : grid1.Coords) (v762 : IVec S16 32) : Prop :=
  (∀ (k1_h1 : k1_cond1 i = 1#1), ∀ a x, ((![v762] : Fin 1 → IVec S16 32) a x).toNat < S832.size a)
theorem k1_idx63_inb : ∀ (i : grid1.Coords) (v762 : IVec S16 32) (k1_hw63 : k1_chk63 i v762), ∀ (k1_h1 : k1_cond1 i = 1#1), ∀ a x, ((![v762] : Fin 1 → IVec S16 32) a x).toNat < S832.size a := fun i v762 k1_hw63 k1_h1 => k1_hw63 k1_h1

def k1_chk64 (i : grid1.Coords) (v765 : IVec S16 32) : Prop :=
  (∀ (k1_h1 : k1_cond1 i = 1#1), ∀ a x, ((![v765] : Fin 1 → IVec S16 32) a x).toNat < S832.size a)
theorem k1_idx64_inb : ∀ (i : grid1.Coords) (v765 : IVec S16 32) (k1_hw64 : k1_chk64 i v765), ∀ (k1_h1 : k1_cond1 i = 1#1), ∀ a x, ((![v765] : Fin 1 → IVec S16 32) a x).toNat < S832.size a := fun i v765 k1_hw64 k1_h1 => k1_hw64 k1_h1

def k1_chk65 (i : grid1.Coords) (v848 : IVec S16 32) : Prop :=
  (∀ (k1_h1 : k1_cond1 i = 1#1), ∀ a x, ((![v848] : Fin 1 → IVec S16 32) a x).toNat < S28800.size a)
theorem k1_idx65_inb : ∀ (i : grid1.Coords) (v848 : IVec S16 32) (k1_hw65 : k1_chk65 i v848), ∀ (k1_h1 : k1_cond1 i = 1#1), ∀ a x, ((![v848] : Fin 1 → IVec S16 32) a x).toNat < S28800.size a := fun i v848 k1_hw65 k1_h1 => k1_hw65 k1_h1

def k1_chk66 (i : grid1.Coords) (v851 : IVec S16 32) : Prop :=
  (∀ (k1_h1 : k1_cond1 i = 1#1), ∀ a x, ((![v851] : Fin 1 → IVec S16 32) a x).toNat < S28800.size a)
theorem k1_idx66_inb : ∀ (i : grid1.Coords) (v851 : IVec S16 32) (k1_hw66 : k1_chk66 i v851), ∀ (k1_h1 : k1_cond1 i = 1#1), ∀ a x, ((![v851] : Fin 1 → IVec S16 32) a x).toNat < S28800.size a := fun i v851 k1_hw66 k1_h1 => k1_hw66 k1_h1

def k1_chk67 (i : grid1.Coords) (v854 : IVec S16 32) : Prop :=
  (∀ (k1_h1 : k1_cond1 i = 1#1), ∀ a x, ((![v854] : Fin 1 → IVec S16 32) a x).toNat < S28800.size a)
theorem k1_idx67_inb : ∀ (i : grid1.Coords) (v854 : IVec S16 32) (k1_hw67 : k1_chk67 i v854), ∀ (k1_h1 : k1_cond1 i = 1#1), ∀ a x, ((![v854] : Fin 1 → IVec S16 32) a x).toNat < S28800.size a := fun i v854 k1_hw67 k1_h1 => k1_hw67 k1_h1

def k1_chk68 (i : grid1.Coords) (v857 : IVec S16 32) : Prop :=
  (∀ (k1_h1 : k1_cond1 i = 1#1), ∀ a x, ((![v857] : Fin 1 → IVec S16 32) a x).toNat < S28800.size a)
theorem k1_idx68_inb : ∀ (i : grid1.Coords) (v857 : IVec S16 32) (k1_hw68 : k1_chk68 i v857), ∀ (k1_h1 : k1_cond1 i = 1#1), ∀ a x, ((![v857] : Fin 1 → IVec S16 32) a x).toNat < S28800.size a := fun i v857 k1_hw68 k1_h1 => k1_hw68 k1_h1

def k1_chk69 (i : grid1.Coords) (v860 : IVec S16 32) : Prop :=
  (∀ (k1_h1 : k1_cond1 i = 1#1), ∀ a x, ((![v860] : Fin 1 → IVec S16 32) a x).toNat < S832.size a)
theorem k1_idx69_inb : ∀ (i : grid1.Coords) (v860 : IVec S16 32) (k1_hw69 : k1_chk69 i v860), ∀ (k1_h1 : k1_cond1 i = 1#1), ∀ a x, ((![v860] : Fin 1 → IVec S16 32) a x).toNat < S832.size a := fun i v860 k1_hw69 k1_h1 => k1_hw69 k1_h1

def k1_chk70 (i : grid1.Coords) (v863 : IVec S16 32) : Prop :=
  (∀ (k1_h1 : k1_cond1 i = 1#1), ∀ a x, ((![v863] : Fin 1 → IVec S16 32) a x).toNat < S832.size a)
theorem k1_idx70_inb : ∀ (i : grid1.Coords) (v863 : IVec S16 32) (k1_hw70 : k1_chk70 i v863), ∀ (k1_h1 : k1_cond1 i = 1#1), ∀ a x, ((![v863] : Fin 1 → IVec S16 32) a x).toNat < S832.size a := fun i v863 k1_hw70 k1_h1 => k1_hw70 k1_h1

def k1_chk71 (i : grid1.Coords) (v866 : IVec S16 32) : Prop :=
  (∀ (k1_h1 : k1_cond1 i = 1#1), ∀ a x, ((![v866] : Fin 1 → IVec S16 32) a x).toNat < S832.size a)
theorem k1_idx71_inb : ∀ (i : grid1.Coords) (v866 : IVec S16 32) (k1_hw71 : k1_chk71 i v866), ∀ (k1_h1 : k1_cond1 i = 1#1), ∀ a x, ((![v866] : Fin 1 → IVec S16 32) a x).toNat < S832.size a := fun i v866 k1_hw71 k1_h1 => k1_hw71 k1_h1

def k1_chk72 (i : grid1.Coords) (v869 : IVec S16 32) : Prop :=
  (∀ (k1_h1 : k1_cond1 i = 1#1), ∀ a x, ((![v869] : Fin 1 → IVec S16 32) a x).toNat < S832.size a)
theorem k1_idx72_inb : ∀ (i : grid1.Coords) (v869 : IVec S16 32) (k1_hw72 : k1_chk72 i v869), ∀ (k1_h1 : k1_cond1 i = 1#1), ∀ a x, ((![v869] : Fin 1 → IVec S16 32) a x).toNat < S832.size a := fun i v869 k1_hw72 k1_h1 => k1_hw72 k1_h1

def k1_chk73 (i : grid1.Coords) (v952 : IVec S16 32) : Prop :=
  (∀ (k1_h1 : k1_cond1 i = 1#1), ∀ a x, ((![v952] : Fin 1 → IVec S16 32) a x).toNat < S28800.size a)
theorem k1_idx73_inb : ∀ (i : grid1.Coords) (v952 : IVec S16 32) (k1_hw73 : k1_chk73 i v952), ∀ (k1_h1 : k1_cond1 i = 1#1), ∀ a x, ((![v952] : Fin 1 → IVec S16 32) a x).toNat < S28800.size a := fun i v952 k1_hw73 k1_h1 => k1_hw73 k1_h1

def k1_chk74 (i : grid1.Coords) (v955 : IVec S16 32) : Prop :=
  (∀ (k1_h1 : k1_cond1 i = 1#1), ∀ a x, ((![v955] : Fin 1 → IVec S16 32) a x).toNat < S28800.size a)
theorem k1_idx74_inb : ∀ (i : grid1.Coords) (v955 : IVec S16 32) (k1_hw74 : k1_chk74 i v955), ∀ (k1_h1 : k1_cond1 i = 1#1), ∀ a x, ((![v955] : Fin 1 → IVec S16 32) a x).toNat < S28800.size a := fun i v955 k1_hw74 k1_h1 => k1_hw74 k1_h1

def k1_chk75 (i : grid1.Coords) (v958 : IVec S16 32) : Prop :=
  (∀ (k1_h1 : k1_cond1 i = 1#1), ∀ a x, ((![v958] : Fin 1 → IVec S16 32) a x).toNat < S28800.size a)
theorem k1_idx75_inb : ∀ (i : grid1.Coords) (v958 : IVec S16 32) (k1_hw75 : k1_chk75 i v958), ∀ (k1_h1 : k1_cond1 i = 1#1), ∀ a x, ((![v958] : Fin 1 → IVec S16 32) a x).toNat < S28800.size a := fun i v958 k1_hw75 k1_h1 => k1_hw75 k1_h1

def k1_chk76 (i : grid1.Coords) (v961 : IVec S16 32) : Prop :=
  (∀ (k1_h1 : k1_cond1 i = 1#1), ∀ a x, ((![v961] : Fin 1 → IVec S16 32) a x).toNat < S28800.size a)
theorem k1_idx76_inb : ∀ (i : grid1.Coords) (v961 : IVec S16 32) (k1_hw76 : k1_chk76 i v961), ∀ (k1_h1 : k1_cond1 i = 1#1), ∀ a x, ((![v961] : Fin 1 → IVec S16 32) a x).toNat < S28800.size a := fun i v961 k1_hw76 k1_h1 => k1_hw76 k1_h1

def k1_chk77 (i : grid1.Coords) (v964 : IVec S16 32) : Prop :=
  (∀ (k1_h1 : k1_cond1 i = 1#1), ∀ a x, ((![v964] : Fin 1 → IVec S16 32) a x).toNat < S832.size a)
theorem k1_idx77_inb : ∀ (i : grid1.Coords) (v964 : IVec S16 32) (k1_hw77 : k1_chk77 i v964), ∀ (k1_h1 : k1_cond1 i = 1#1), ∀ a x, ((![v964] : Fin 1 → IVec S16 32) a x).toNat < S832.size a := fun i v964 k1_hw77 k1_h1 => k1_hw77 k1_h1

def k1_chk78 (i : grid1.Coords) (v967 : IVec S16 32) : Prop :=
  (∀ (k1_h1 : k1_cond1 i = 1#1), ∀ a x, ((![v967] : Fin 1 → IVec S16 32) a x).toNat < S832.size a)
theorem k1_idx78_inb : ∀ (i : grid1.Coords) (v967 : IVec S16 32) (k1_hw78 : k1_chk78 i v967), ∀ (k1_h1 : k1_cond1 i = 1#1), ∀ a x, ((![v967] : Fin 1 → IVec S16 32) a x).toNat < S832.size a := fun i v967 k1_hw78 k1_h1 => k1_hw78 k1_h1

def k1_chk79 (i : grid1.Coords) (v970 : IVec S16 32) : Prop :=
  (∀ (k1_h1 : k1_cond1 i = 1#1), ∀ a x, ((![v970] : Fin 1 → IVec S16 32) a x).toNat < S832.size a)
theorem k1_idx79_inb : ∀ (i : grid1.Coords) (v970 : IVec S16 32) (k1_hw79 : k1_chk79 i v970), ∀ (k1_h1 : k1_cond1 i = 1#1), ∀ a x, ((![v970] : Fin 1 → IVec S16 32) a x).toNat < S832.size a := fun i v970 k1_hw79 k1_h1 => k1_hw79 k1_h1

def k1_chk80 (i : grid1.Coords) (v973 : IVec S16 32) : Prop :=
  (∀ (k1_h1 : k1_cond1 i = 1#1), ∀ a x, ((![v973] : Fin 1 → IVec S16 32) a x).toNat < S832.size a)
theorem k1_idx80_inb : ∀ (i : grid1.Coords) (v973 : IVec S16 32) (k1_hw80 : k1_chk80 i v973), ∀ (k1_h1 : k1_cond1 i = 1#1), ∀ a x, ((![v973] : Fin 1 → IVec S16 32) a x).toNat < S832.size a := fun i v973 k1_hw80 k1_h1 => k1_hw80 k1_h1

def k1_chk81 (i : grid1.Coords) (v1056 : IVec S16 32) : Prop :=
  (∀ (k1_h1 : k1_cond1 i = 1#1), ∀ a x, ((![v1056] : Fin 1 → IVec S16 32) a x).toNat < S28800.size a)
theorem k1_idx81_inb : ∀ (i : grid1.Coords) (v1056 : IVec S16 32) (k1_hw81 : k1_chk81 i v1056), ∀ (k1_h1 : k1_cond1 i = 1#1), ∀ a x, ((![v1056] : Fin 1 → IVec S16 32) a x).toNat < S28800.size a := fun i v1056 k1_hw81 k1_h1 => k1_hw81 k1_h1

def k1_chk82 (i : grid1.Coords) (v1059 : IVec S16 32) : Prop :=
  (∀ (k1_h1 : k1_cond1 i = 1#1), ∀ a x, ((![v1059] : Fin 1 → IVec S16 32) a x).toNat < S28800.size a)
theorem k1_idx82_inb : ∀ (i : grid1.Coords) (v1059 : IVec S16 32) (k1_hw82 : k1_chk82 i v1059), ∀ (k1_h1 : k1_cond1 i = 1#1), ∀ a x, ((![v1059] : Fin 1 → IVec S16 32) a x).toNat < S28800.size a := fun i v1059 k1_hw82 k1_h1 => k1_hw82 k1_h1

def k1_chk83 (i : grid1.Coords) (v1062 : IVec S16 32) : Prop :=
  (∀ (k1_h1 : k1_cond1 i = 1#1), ∀ a x, ((![v1062] : Fin 1 → IVec S16 32) a x).toNat < S28800.size a)
theorem k1_idx83_inb : ∀ (i : grid1.Coords) (v1062 : IVec S16 32) (k1_hw83 : k1_chk83 i v1062), ∀ (k1_h1 : k1_cond1 i = 1#1), ∀ a x, ((![v1062] : Fin 1 → IVec S16 32) a x).toNat < S28800.size a := fun i v1062 k1_hw83 k1_h1 => k1_hw83 k1_h1

def k1_chk84 (i : grid1.Coords) (v1065 : IVec S16 32) : Prop :=
  (∀ (k1_h1 : k1_cond1 i = 1#1), ∀ a x, ((![v1065] : Fin 1 → IVec S16 32) a x).toNat < S28800.size a)
theorem k1_idx84_inb : ∀ (i : grid1.Coords) (v1065 : IVec S16 32) (k1_hw84 : k1_chk84 i v1065), ∀ (k1_h1 : k1_cond1 i = 1#1), ∀ a x, ((![v1065] : Fin 1 → IVec S16 32) a x).toNat < S28800.size a := fun i v1065 k1_hw84 k1_h1 => k1_hw84 k1_h1

def k1_chk85 (i : grid1.Coords) (v1068 : IVec S16 32) : Prop :=
  (∀ (k1_h1 : k1_cond1 i = 1#1), ∀ a x, ((![v1068] : Fin 1 → IVec S16 32) a x).toNat < S832.size a)
theorem k1_idx85_inb : ∀ (i : grid1.Coords) (v1068 : IVec S16 32) (k1_hw85 : k1_chk85 i v1068), ∀ (k1_h1 : k1_cond1 i = 1#1), ∀ a x, ((![v1068] : Fin 1 → IVec S16 32) a x).toNat < S832.size a := fun i v1068 k1_hw85 k1_h1 => k1_hw85 k1_h1

def k1_chk86 (i : grid1.Coords) (v1071 : IVec S16 32) : Prop :=
  (∀ (k1_h1 : k1_cond1 i = 1#1), ∀ a x, ((![v1071] : Fin 1 → IVec S16 32) a x).toNat < S832.size a)
theorem k1_idx86_inb : ∀ (i : grid1.Coords) (v1071 : IVec S16 32) (k1_hw86 : k1_chk86 i v1071), ∀ (k1_h1 : k1_cond1 i = 1#1), ∀ a x, ((![v1071] : Fin 1 → IVec S16 32) a x).toNat < S832.size a := fun i v1071 k1_hw86 k1_h1 => k1_hw86 k1_h1

def k1_chk87 (i : grid1.Coords) (v1074 : IVec S16 32) : Prop :=
  (∀ (k1_h1 : k1_cond1 i = 1#1), ∀ a x, ((![v1074] : Fin 1 → IVec S16 32) a x).toNat < S832.size a)
theorem k1_idx87_inb : ∀ (i : grid1.Coords) (v1074 : IVec S16 32) (k1_hw87 : k1_chk87 i v1074), ∀ (k1_h1 : k1_cond1 i = 1#1), ∀ a x, ((![v1074] : Fin 1 → IVec S16 32) a x).toNat < S832.size a := fun i v1074 k1_hw87 k1_h1 => k1_hw87 k1_h1

def k1_chk88 (i : grid1.Coords) (v1077 : IVec S16 32) : Prop :=
  (∀ (k1_h1 : k1_cond1 i = 1#1), ∀ a x, ((![v1077] : Fin 1 → IVec S16 32) a x).toNat < S832.size a)
theorem k1_idx88_inb : ∀ (i : grid1.Coords) (v1077 : IVec S16 32) (k1_hw88 : k1_chk88 i v1077), ∀ (k1_h1 : k1_cond1 i = 1#1), ∀ a x, ((![v1077] : Fin 1 → IVec S16 32) a x).toNat < S832.size a := fun i v1077 k1_hw88 k1_h1 => k1_hw88 k1_h1

def k1_chk89 (i : grid1.Coords) (v1160 : IVec S16 32) : Prop :=
  (∀ (k1_h1 : k1_cond1 i = 1#1), ∀ a x, ((![v1160] : Fin 1 → IVec S16 32) a x).toNat < S28800.size a)
theorem k1_idx89_inb : ∀ (i : grid1.Coords) (v1160 : IVec S16 32) (k1_hw89 : k1_chk89 i v1160), ∀ (k1_h1 : k1_cond1 i = 1#1), ∀ a x, ((![v1160] : Fin 1 → IVec S16 32) a x).toNat < S28800.size a := fun i v1160 k1_hw89 k1_h1 => k1_hw89 k1_h1

def k1_chk90 (i : grid1.Coords) (v1163 : IVec S16 32) : Prop :=
  (∀ (k1_h1 : k1_cond1 i = 1#1), ∀ a x, ((![v1163] : Fin 1 → IVec S16 32) a x).toNat < S28800.size a)
theorem k1_idx90_inb : ∀ (i : grid1.Coords) (v1163 : IVec S16 32) (k1_hw90 : k1_chk90 i v1163), ∀ (k1_h1 : k1_cond1 i = 1#1), ∀ a x, ((![v1163] : Fin 1 → IVec S16 32) a x).toNat < S28800.size a := fun i v1163 k1_hw90 k1_h1 => k1_hw90 k1_h1

def k1_chk91 (i : grid1.Coords) (v1166 : IVec S16 32) : Prop :=
  (∀ (k1_h1 : k1_cond1 i = 1#1), ∀ a x, ((![v1166] : Fin 1 → IVec S16 32) a x).toNat < S28800.size a)
theorem k1_idx91_inb : ∀ (i : grid1.Coords) (v1166 : IVec S16 32) (k1_hw91 : k1_chk91 i v1166), ∀ (k1_h1 : k1_cond1 i = 1#1), ∀ a x, ((![v1166] : Fin 1 → IVec S16 32) a x).toNat < S28800.size a := fun i v1166 k1_hw91 k1_h1 => k1_hw91 k1_h1

def k1_chk92 (i : grid1.Coords) (v1169 : IVec S16 32) : Prop :=
  (∀ (k1_h1 : k1_cond1 i = 1#1), ∀ a x, ((![v1169] : Fin 1 → IVec S16 32) a x).toNat < S28800.size a)
theorem k1_idx92_inb : ∀ (i : grid1.Coords) (v1169 : IVec S16 32) (k1_hw92 : k1_chk92 i v1169), ∀ (k1_h1 : k1_cond1 i = 1#1), ∀ a x, ((![v1169] : Fin 1 → IVec S16 32) a x).toNat < S28800.size a := fun i v1169 k1_hw92 k1_h1 => k1_hw92 k1_h1

def k1_chk93 (i : grid1.Coords) (v1172 : IVec S16 32) : Prop :=
  (∀ (k1_h1 : k1_cond1 i = 1#1), ∀ a x, ((![v1172] : Fin 1 → IVec S16 32) a x).toNat < S832.size a)
theorem k1_idx93_inb : ∀ (i : grid1.Coords) (v1172 : IVec S16 32) (k1_hw93 : k1_chk93 i v1172), ∀ (k1_h1 : k1_cond1 i = 1#1), ∀ a x, ((![v1172] : Fin 1 → IVec S16 32) a x).toNat < S832.size a := fun i v1172 k1_hw93 k1_h1 => k1_hw93 k1_h1

def k1_chk94 (i : grid1.Coords) (v1175 : IVec S16 32) : Prop :=
  (∀ (k1_h1 : k1_cond1 i = 1#1), ∀ a x, ((![v1175] : Fin 1 → IVec S16 32) a x).toNat < S832.size a)
theorem k1_idx94_inb : ∀ (i : grid1.Coords) (v1175 : IVec S16 32) (k1_hw94 : k1_chk94 i v1175), ∀ (k1_h1 : k1_cond1 i = 1#1), ∀ a x, ((![v1175] : Fin 1 → IVec S16 32) a x).toNat < S832.size a := fun i v1175 k1_hw94 k1_h1 => k1_hw94 k1_h1

def k1_chk95 (i : grid1.Coords) (v1178 : IVec S16 32) : Prop :=
  (∀ (k1_h1 : k1_cond1 i = 1#1), ∀ a x, ((![v1178] : Fin 1 → IVec S16 32) a x).toNat < S832.size a)
theorem k1_idx95_inb : ∀ (i : grid1.Coords) (v1178 : IVec S16 32) (k1_hw95 : k1_chk95 i v1178), ∀ (k1_h1 : k1_cond1 i = 1#1), ∀ a x, ((![v1178] : Fin 1 → IVec S16 32) a x).toNat < S832.size a := fun i v1178 k1_hw95 k1_h1 => k1_hw95 k1_h1

def k1_chk96 (i : grid1.Coords) (v1181 : IVec S16 32) : Prop :=
  (∀ (k1_h1 : k1_cond1 i = 1#1), ∀ a x, ((![v1181] : Fin 1 → IVec S16 32) a x).toNat < S832.size a)
theorem k1_idx96_inb : ∀ (i : grid1.Coords) (v1181 : IVec S16 32) (k1_hw96 : k1_chk96 i v1181), ∀ (k1_h1 : k1_cond1 i = 1#1), ∀ a x, ((![v1181] : Fin 1 → IVec S16 32) a x).toNat < S832.size a := fun i v1181 k1_hw96 k1_h1 => k1_hw96 k1_h1

def k1_chk97 (i : grid1.Coords) (v1264 : IVec S16 32) : Prop :=
  (∀ (k1_h1 : k1_cond1 i = 1#1), ∀ a x, ((![v1264] : Fin 1 → IVec S16 32) a x).toNat < S28800.size a)
theorem k1_idx97_inb : ∀ (i : grid1.Coords) (v1264 : IVec S16 32) (k1_hw97 : k1_chk97 i v1264), ∀ (k1_h1 : k1_cond1 i = 1#1), ∀ a x, ((![v1264] : Fin 1 → IVec S16 32) a x).toNat < S28800.size a := fun i v1264 k1_hw97 k1_h1 => k1_hw97 k1_h1

def k1_chk98 (i : grid1.Coords) (v1267 : IVec S16 32) : Prop :=
  (∀ (k1_h1 : k1_cond1 i = 1#1), ∀ a x, ((![v1267] : Fin 1 → IVec S16 32) a x).toNat < S28800.size a)
theorem k1_idx98_inb : ∀ (i : grid1.Coords) (v1267 : IVec S16 32) (k1_hw98 : k1_chk98 i v1267), ∀ (k1_h1 : k1_cond1 i = 1#1), ∀ a x, ((![v1267] : Fin 1 → IVec S16 32) a x).toNat < S28800.size a := fun i v1267 k1_hw98 k1_h1 => k1_hw98 k1_h1

def k1_chk99 (i : grid1.Coords) (v1270 : IVec S16 32) : Prop :=
  (∀ (k1_h1 : k1_cond1 i = 1#1), ∀ a x, ((![v1270] : Fin 1 → IVec S16 32) a x).toNat < S28800.size a)
theorem k1_idx99_inb : ∀ (i : grid1.Coords) (v1270 : IVec S16 32) (k1_hw99 : k1_chk99 i v1270), ∀ (k1_h1 : k1_cond1 i = 1#1), ∀ a x, ((![v1270] : Fin 1 → IVec S16 32) a x).toNat < S28800.size a := fun i v1270 k1_hw99 k1_h1 => k1_hw99 k1_h1

def k1_chk100 (i : grid1.Coords) (v1273 : IVec S16 32) : Prop :=
  (∀ (k1_h1 : k1_cond1 i = 1#1), ∀ a x, ((![v1273] : Fin 1 → IVec S16 32) a x).toNat < S28800.size a)
theorem k1_idx100_inb : ∀ (i : grid1.Coords) (v1273 : IVec S16 32) (k1_hw100 : k1_chk100 i v1273), ∀ (k1_h1 : k1_cond1 i = 1#1), ∀ a x, ((![v1273] : Fin 1 → IVec S16 32) a x).toNat < S28800.size a := fun i v1273 k1_hw100 k1_h1 => k1_hw100 k1_h1

def k1_chk101 (i : grid1.Coords) (v1276 : IVec S16 32) : Prop :=
  (∀ (k1_h1 : k1_cond1 i = 1#1), ∀ a x, ((![v1276] : Fin 1 → IVec S16 32) a x).toNat < S832.size a)
theorem k1_idx101_inb : ∀ (i : grid1.Coords) (v1276 : IVec S16 32) (k1_hw101 : k1_chk101 i v1276), ∀ (k1_h1 : k1_cond1 i = 1#1), ∀ a x, ((![v1276] : Fin 1 → IVec S16 32) a x).toNat < S832.size a := fun i v1276 k1_hw101 k1_h1 => k1_hw101 k1_h1

def k1_chk102 (i : grid1.Coords) (v1279 : IVec S16 32) : Prop :=
  (∀ (k1_h1 : k1_cond1 i = 1#1), ∀ a x, ((![v1279] : Fin 1 → IVec S16 32) a x).toNat < S832.size a)
theorem k1_idx102_inb : ∀ (i : grid1.Coords) (v1279 : IVec S16 32) (k1_hw102 : k1_chk102 i v1279), ∀ (k1_h1 : k1_cond1 i = 1#1), ∀ a x, ((![v1279] : Fin 1 → IVec S16 32) a x).toNat < S832.size a := fun i v1279 k1_hw102 k1_h1 => k1_hw102 k1_h1

def k1_chk103 (i : grid1.Coords) (v1282 : IVec S16 32) : Prop :=
  (∀ (k1_h1 : k1_cond1 i = 1#1), ∀ a x, ((![v1282] : Fin 1 → IVec S16 32) a x).toNat < S832.size a)
theorem k1_idx103_inb : ∀ (i : grid1.Coords) (v1282 : IVec S16 32) (k1_hw103 : k1_chk103 i v1282), ∀ (k1_h1 : k1_cond1 i = 1#1), ∀ a x, ((![v1282] : Fin 1 → IVec S16 32) a x).toNat < S832.size a := fun i v1282 k1_hw103 k1_h1 => k1_hw103 k1_h1

def k1_chk104 (i : grid1.Coords) (v1285 : IVec S16 32) : Prop :=
  (∀ (k1_h1 : k1_cond1 i = 1#1), ∀ a x, ((![v1285] : Fin 1 → IVec S16 32) a x).toNat < S832.size a)
theorem k1_idx104_inb : ∀ (i : grid1.Coords) (v1285 : IVec S16 32) (k1_hw104 : k1_chk104 i v1285), ∀ (k1_h1 : k1_cond1 i = 1#1), ∀ a x, ((![v1285] : Fin 1 → IVec S16 32) a x).toNat < S832.size a := fun i v1285 k1_hw104 k1_h1 => k1_hw104 k1_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x900x91 : Shape := ⟨3, ![8, 900, 91]⟩
abbrev S8x900x4 : Shape := ⟨3, ![8, 900, 4]⟩
abbrev S8x25x4 : Shape := ⟨3, ![8, 25, 4]⟩
abbrev S8x25 : Shape := ⟨2, ![8, 25]⟩
abbrev S_ : Shape := ⟨0, ![]⟩
abbrev S8 : Shape := ⟨1, ![8]⟩
abbrev S200 : Shape := ⟨1, ![200]⟩
abbrev S8x900 : Shape := ⟨2, ![8, 900]⟩
abbrev S200x1 : Shape := ⟨2, ![200, 1]⟩
abbrev S200x2 : Shape := ⟨2, ![200, 2]⟩
abbrev S8x900x1 : Shape := ⟨3, ![8, 900, 1]⟩
abbrev S1x1x92 : Shape := ⟨3, ![1, 1, 92]⟩
abbrev S8x900x92 : Shape := ⟨3, ![8, 900, 92]⟩
abbrev S8x91 : Shape := ⟨2, ![8, 91]⟩
abbrev S200x4 : Shape := ⟨2, ![200, 4]⟩
abbrev S1 : Shape := ⟨1, ![1]⟩
abbrev S3 : Shape := ⟨1, ![3]⟩

abbrev nBuf : Space → Nat
  | .hbm => 248
  | .vmem => 0
  | .smem => 0
  | _ => 0

abbrev hbmTy0_0 (i : Nat) : BufTy := match i % 128 with
  | 0 => ⟨S8x900x91, .f32⟩
  | 1 => ⟨S8x900x4, .f32⟩
  | 2 => ⟨S8x25x4, .f32⟩
  | 3 => ⟨S8x25, .i32⟩
  | 4 => ⟨S8x25, .i32⟩
  | 5 => ⟨S_, .f32⟩
  | 6 => ⟨S_, .f32⟩
  | 7 => ⟨S_, .f32⟩
  | 8 => ⟨S8, .i32⟩
  | 9 => ⟨S8x25, .i32⟩
  | 10 => ⟨S200, .i32⟩
  | 11 => ⟨S200, .i32⟩
  | 12 => ⟨S_, .i32⟩
  | 13 => ⟨S8x900, .i32⟩
  | 14 => ⟨S200, .i32⟩
  | 15 => ⟨S_, .i32⟩
  | 16 => ⟨S200, .i32⟩
  | 17 => ⟨S200, .i1⟩
  | 18 => ⟨S_, .i32⟩
  | 19 => ⟨S200, .i32⟩
  | 20 => ⟨S200, .i32⟩
  | 21 => ⟨S200, .i32⟩
  | 22 => ⟨S_, .i32⟩
  | 23 => ⟨S200, .i32⟩
  | 24 => ⟨S200, .i1⟩
  | 25 => ⟨S_, .i32⟩
  | 26 => ⟨S200, .i32⟩
  | 27 => ⟨S200, .i32⟩
  | 28 => ⟨S200, .i32⟩
  | 29 => ⟨S200x1, .i32⟩
  | 30 => ⟨S200x1, .i32⟩
  | 31 => ⟨S200x2, .i32⟩
  | 32 => ⟨S8x900, .i32⟩
  | 33 => ⟨S8x900x1, .i32⟩
  | 34 => ⟨S1x1x92, .i32⟩
  | 35 => ⟨S8x900x92, .i32⟩
  | 36 => ⟨S8x900x92, .i32⟩
  | 37 => ⟨S8x900x92, .i1⟩
  | 38 => ⟨S8x900x92, .f32⟩
  | 39 => ⟨S8x900x91, .f32⟩
  | 40 => ⟨S8x900x91, .f32⟩
  | 41 => ⟨S8x900x91, .f32⟩
  | 42 => ⟨S_, .f32⟩
  | 43 => ⟨S8x900x91, .f32⟩
  | 44 => ⟨S8x900x91, .f32⟩
  | 45 => ⟨S_, .f32⟩
  | 46 => ⟨S8x900x91, .f32⟩
  | 47 => ⟨S8x900x91, .f32⟩
  | 48 => ⟨S_, .f32⟩
  | 49 => ⟨S_, .f32⟩
  | 50 => ⟨S8x900x91, .f32⟩
  | 51 => ⟨S8x900x91, .f32⟩
  | 52 => ⟨S8x900x91, .f32⟩
  | 53 => ⟨S8x900x91, .f32⟩
  | 54 => ⟨S8x900x91, .f32⟩
  | 55 => ⟨S8x900x91, .f32⟩
  | 56 => ⟨S8x900x91, .f32⟩
  | 57 => ⟨S8x900x91, .f32⟩
  | 58 => ⟨S8x900x91, .f32⟩
  | 59 => ⟨S8x900x91, .f32⟩
  | 60 => ⟨S_, .f32⟩
  | 61 => ⟨S8x900x91, .f32⟩
  | 62 => ⟨S8x900x91, .f32⟩
  | 63 => ⟨S_, .f32⟩
  | 64 => ⟨S8x900x91, .f32⟩
  | 65 => ⟨S8x900x91, .f32⟩
  | 66 => ⟨S8x900x91, .f32⟩
  | 67 => ⟨S8x900x91, .f32⟩
  | 68 => ⟨S_, .f32⟩
  | 69 => ⟨S8x900x91, .f32⟩
  | 70 => ⟨S8x900x91, .f32⟩
  | 71 => ⟨S_, .f32⟩
  | 72 => ⟨S8x900x91, .f32⟩
  | 73 => ⟨S8x900x91, .f32⟩
  | 74 => ⟨S8x900x91, .f32⟩
  | 75 => ⟨S_, .f32⟩
  | 76 => ⟨S8x900x91, .f32⟩
  | 77 => ⟨S8x900x91, .f32⟩
  | 78 => ⟨S_, .f32⟩
  | 79 => ⟨S8x900x91, .f32⟩
  | 80 => ⟨S8x900x91, .f32⟩
  | 81 => ⟨S_, .f32⟩
  | 82 => ⟨S8x900x91, .f32⟩
  | 83 => ⟨S8x900x91, .f32⟩
  | 84 => ⟨S8x900x91, .f32⟩
  | 85 => ⟨S8x900x91, .f32⟩
  | 86 => ⟨S_, .f32⟩
  | 87 => ⟨S8x91, .f32⟩
  | 88 => ⟨S_, .f32⟩
  | 89 => ⟨S8x91, .f32⟩
  | 90 => ⟨S8x91, .f32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S200, .i32⟩
  | 98 => ⟨S200, .i1⟩
  | 99 => ⟨S_, .i32⟩
  | 100 => ⟨S200, .i32⟩
  | 101 => ⟨S200, .i32⟩
  | 102 => ⟨S200, .i32⟩
  | 103 => ⟨S_, .i32⟩
  | 104 => ⟨S200, .i32⟩
  | 105 => ⟨S200, .i1⟩
  | 106 => ⟨S_, .i32⟩
  | 107 => ⟨S200, .i32⟩
  | 108 => ⟨S200, .i32⟩
  | 109 => ⟨S200, .i32⟩
  | 110 => ⟨S200x1, .i32⟩
  | 111 => ⟨S200x1, .i32⟩
  | 112 => ⟨S200x2, .i32⟩
  | 113 => ⟨S200x4, .f32⟩
  | 114 => ⟨S200x4, .f32⟩
  | 115 => ⟨S200x4, .f32⟩
  | 116 => ⟨S200x4, .f32⟩
  | 117 => ⟨S_, .f32⟩
  | 118 => ⟨S_, .f32⟩
  | 119 => ⟨S_, .f32⟩
  | 120 => ⟨S200x1, .f32⟩
  | 121 => ⟨S200, .f32⟩
  | 122 => ⟨S200x1, .f32⟩
  | 123 => ⟨S200, .f32⟩
  | 124 => ⟨S200x1, .f32⟩
  | 125 => ⟨S200, .f32⟩
  | 126 => ⟨S200x1, .f32⟩
  | 127 => ⟨S200, .f32⟩
  | _ => ⟨S8x900x91, .f32⟩

abbrev hbmTy0_1 (i : Nat) : BufTy := match i % 128 with
  | 0 => ⟨S_, .f32⟩
  | 1 => ⟨S200, .f32⟩
  | 2 => ⟨S200, .f32⟩
  | 3 => ⟨S200, .f32⟩
  | 4 => ⟨S_, .f32⟩
  | 5 => ⟨S200, .f32⟩
  | 6 => ⟨S200, .f32⟩
  | 7 => ⟨S200, .f32⟩
  | 8 => ⟨S_, .f32⟩
  | 9 => ⟨S200, .f32⟩
  | 10 => ⟨S200, .f32⟩
  | 11 => ⟨S200, .f32⟩
  | 12 => ⟨S_, .f32⟩
  | 13 => ⟨S200, .f32⟩
  | 14 => ⟨S200, .f32⟩
  | 15 => ⟨S200, .f32⟩
  | 16 => ⟨S200x1, .f32⟩
  | 17 => ⟨S200x1, .f32⟩
  | 18 => ⟨S200x1, .f32⟩
  | 19 => ⟨S200x1, .f32⟩
  | 20 => ⟨S200x4, .f32⟩
  | 21 => ⟨S200x1, .f32⟩
  | 22 => ⟨S200, .f32⟩
  | 23 => ⟨S200x1, .f32⟩
  | 24 => ⟨S200, .f32⟩
  | 25 => ⟨S200x1, .f32⟩
  | 26 => ⟨S200, .f32⟩
  | 27 => ⟨S200x1, .f32⟩
  | 28 => ⟨S200, .f32⟩
  | 29 => ⟨S_, .f32⟩
  | 30 => ⟨S200, .f32⟩
  | 31 => ⟨S200, .f32⟩
  | 32 => ⟨S200, .f32⟩
  | 33 => ⟨S_, .f32⟩
  | 34 => ⟨S200, .f32⟩
  | 35 => ⟨S200, .f32⟩
  | 36 => ⟨S200, .f32⟩
  | 37 => ⟨S_, .f32⟩
  | 38 => ⟨S200, .f32⟩
  | 39 => ⟨S200, .f32⟩
  | 40 => ⟨S200, .f32⟩
  | 41 => ⟨S_, .f32⟩
  | 42 => ⟨S200, .f32⟩
  | 43 => ⟨S200, .f32⟩
  | 44 => ⟨S200, .f32⟩
  | 45 => ⟨S200x1, .f32⟩
  | 46 => ⟨S200x1, .f32⟩
  | 47 => ⟨S200x1, .f32⟩
  | 48 => ⟨S200x1, .f32⟩
  | 49 => ⟨S200x4, .f32⟩
  | 50 => ⟨S200x1, .f32⟩
  | 51 => ⟨S200, .f32⟩
  | 52 => ⟨S200x1, .f32⟩
  | 53 => ⟨S200, .f32⟩
  | 54 => ⟨S200, .f32⟩
  | 55 => ⟨S200x1, .f32⟩
  | 56 => ⟨S200, .f32⟩
  | 57 => ⟨S200x1, .f32⟩
  | 58 => ⟨S200, .f32⟩
  | 59 => ⟨S200, .f32⟩
  | 60 => ⟨S200, .f32⟩
  | 61 => ⟨S200x1, .f32⟩
  | 62 => ⟨S200, .f32⟩
  | 63 => ⟨S200x1, .f32⟩
  | 64 => ⟨S200, .f32⟩
  | 65 => ⟨S200, .f32⟩
  | 66 => ⟨S200x1, .f32⟩
  | 67 => ⟨S200, .f32⟩
  | 68 => ⟨S200x1, .f32⟩
  | 69 => ⟨S200, .f32⟩
  | 70 => ⟨S200, .f32⟩
  | 71 => ⟨S200, .f32⟩
  | 72 => ⟨S200x2, .f32⟩
  | 73 => ⟨S200x2, .f32⟩
  | 74 => ⟨S200x2, .f32⟩
  | 75 => ⟨S200x2, .f32⟩
  | 76 => ⟨S200x2, .f32⟩
  | 77 => ⟨S200x2, .f32⟩
  | 78 => ⟨S200x2, .f32⟩
  | 79 => ⟨S_, .f32⟩
  | 80 => ⟨S_, .f32⟩
  | 81 => ⟨S200x2, .f32⟩
  | 82 => ⟨S200x2, .f32⟩
  | 83 => ⟨S200x1, .f32⟩
  | 84 => ⟨S200, .f32⟩
  | 85 => ⟨S200x1, .f32⟩
  | 86 => ⟨S200, .f32⟩
  | 87 => ⟨S200, .f32⟩
  | 88 => ⟨S200, .f32⟩
  | 89 => ⟨S200, .f32⟩
  | 90 => ⟨S200, .f32⟩
  | 91 => ⟨S200x2, .f32⟩
  | 92 => ⟨S200x2, .f32⟩
  | 93 => ⟨S200x2, .f32⟩
  | 94 => ⟨S200x2, .f32⟩
  | 95 => ⟨S200x2, .f32⟩
  | 96 => ⟨S200x2, .f32⟩
  | 97 => ⟨S200x2, .f32⟩
  | 98 => ⟨S_, .f32⟩
  | 99 => ⟨S_, .f32⟩
  | 100 => ⟨S200x2, .f32⟩
  | 101 => ⟨S200x2, .f32⟩
  | 102 => ⟨S200x1, .f32⟩
  | 103 => ⟨S200, .f32⟩
  | 104 => ⟨S200x1, .f32⟩
  | 105 => ⟨S200, .f32⟩
  | 106 => ⟨S200, .f32⟩
  | 107 => ⟨S200, .f32⟩
  | 108 => ⟨S200, .f32⟩
  | 109 => ⟨S200, .f32⟩
  | 110 => ⟨S_, .f32⟩
  | 111 => ⟨S200, .f32⟩
  | 112 => ⟨S200, .f32⟩
  | 113 => ⟨S_, .f32⟩
  | 114 => ⟨S_, .f32⟩
  | 115 => ⟨S_, .f32⟩
  | 116 => ⟨S1, .f32⟩
  | 117 => ⟨S1, .f32⟩
  | 118 => ⟨S1, .f32⟩
  | 119 => ⟨S3, .f32⟩
  | _ => ⟨S8x900x91, .f32⟩

abbrev hbmTy (i : Nat) : BufTy := match i / 128 with
  | 0 => hbmTy0_0 i
  | 1 => hbmTy0_1 i
  | _ => ⟨S8x900x91, .f32⟩

abbrev bufTy : (tb : Table) → Fin (tcTables nBuf tb) → BufTy
  | .hbm, ⟨i, _⟩ => hbmTy i
  | _, _ => ⟨S8x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_v59 : Ref sig .tc := ⟨.hbm, 90, rfl⟩
abbrev main_cst_17 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_c_19 : Ref sig .tc := ⟨.hbm, 96, rfl⟩
abbrev main_v63 : Ref sig .tc := ⟨.hbm, 97, rfl⟩
abbrev main_v64 : Ref sig .tc := ⟨.hbm, 98, rfl⟩
abbrev main_c_20 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_21 : Ref sig .tc := ⟨.hbm, 103, rfl⟩
abbrev main_v68 : Ref sig .tc := ⟨.hbm, 104, rfl⟩
abbrev main_v69 : Ref sig .tc := ⟨.hbm, 105, rfl⟩
abbrev main_c_22 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_23 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_24 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_25 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_26 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_27 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_28 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_29 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_30 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_31 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_32 : Ref sig .tc := ⟨.hbm, 207, rfl⟩
abbrev main_call2_v0 : Ref sig .tc := ⟨.hbm, 208, rfl⟩
abbrev main_call2_v1 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_33 : Ref sig .tc := ⟨.hbm, 226, rfl⟩
abbrev main_call3_v0 : Ref sig .tc := ⟨.hbm, 227, rfl⟩
abbrev main_call3_v1 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_34 : Ref sig .tc := ⟨.hbm, 238, rfl⟩
abbrev main_v186 : Ref sig .tc := ⟨.hbm, 239, rfl⟩
abbrev main_v187 : Ref sig .tc := ⟨.hbm, 240, rfl⟩
abbrev main_cst_35 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩

abbrev nD : Nat := 1
abbrev τ : Topo := Topo.v7x

variable {F : FTy → Type} [FloatOps F]
-- ==== Proof.Ideal.BoxProg.lean ====
/-
  The vector-subcore body of the box call, written as a short program: three fetches, thirteen rounds of eight gathers
  folded into two accumulators, two stores and the write-out. That the kernel's
  branch is this program is `BoxEq`.
-/
module

public import proofs.«01_k».proof.Proof.Gen.KernelIdeal.Skeleton

@[expose] public section

noncomputable section

namespace Cert.Proof.Ideal

open Cert.KernelIdeal Cert.KernelIdeal.Gen
open Idealize.ShloMosaic Idealize.SL.Sem

variable {F : FTy → Type} [FloatOps F]

/-! ## One round's values -/

/-- The sixteen lanes' numbers. -/
def lanes : IVec S16 32 := iota .scVector S16 32 [0] iota_S16_d0_w32_scVector

/-- Four times a vector of row numbers: the flat position of each row's first coordinate. -/
def times4 (v : IVec S16 32) : IVec S16 32 := muli v (broadcast S16 4#32)

/-- A vector of positions, each moved on by `c`. -/
def shift (v : IVec S16 32) (c : BitVec 32) : IVec S16 32 := addi v (broadcast S16 c)

/-- The sixteen values of each of the four coordinates of a predicted box (`s…`) and of its target (`t…`). -/
structure Eight (F : FTy → Type) where
  scx : FVec F S16 .f32
  scy : FVec F S16 .f32
  sw : FVec F S16 .f32
  sh : FVec F S16 .f32
  tcx : FVec F S16 .f32
  tcy : FVec F S16 .f32
  tw : FVec F S16 .f32
  th : FVec F S16 .f32

/-- The constant vector of a float constant's bits. -/
abbrev kc (b : BitVec 32) : FVec F S16 .f32 := broadcast S16 (Scalar.ofBits .f32 b)

/-- The sum of the four coordinates' absolute differences, per lane. -/
def l1Of (e : Eight F) : FVec F S16 .f32 :=
  addf (addf (addf (absf (subf e.scx e.tcx)) (absf (subf e.scy e.tcy))) (absf (subf e.sw e.tw))) (absf (subf e.sh e.th))

/-- A centre less half an extent. -/
def lo (c w : FVec F S16 .f32) : FVec F S16 .f32 := subf c (mulf (kc 0x3F000000#32) w)
/-- A centre plus half an extent. -/
def hi (c w : FVec F S16 .f32) : FVec F S16 .f32 := addf c (mulf (kc 0x3F000000#32) w)

/-- The area of the box of corners `(x0, y0)` and `(x1, y1)`. -/
def areaOf (x0 y0 x1 y1 : FVec F S16 .f32) : FVec F S16 .f32 := mulf (subf x1 x0) (subf y1 y0)
/-- The overlap of two intervals, not below zero. -/
def overlap (s0 s1 t0 t1 : FVec F S16 .f32) : FVec F S16 .f32 :=
  maximumf (subf (minimumf s1 t1) (maximumf s0 t0)) (kc 0x00000000#32)
/-- The length of the hull of two intervals, not below zero. -/
def hull (s0 s1 t0 t1 : FVec F S16 .f32) : FVec F S16 .f32 :=
  maximumf (subf (maximumf s1 t1) (minimumf s0 t0)) (kc 0x00000000#32)

/-- The generalized intersection over union from the intersection, the union and the hull's area. -/
def giouOf (inter union areae : FVec F S16 .f32) : FVec F S16 .f32 :=
  subf (divf inter union) (divf (subf areae union) areae)

/-- The area the two boxes share, per lane. -/
def interOf (e : Eight F) : FVec F S16 .f32 :=
  mulf (overlap (lo e.scx e.sw) (hi e.scx e.sw) (lo e.tcx e.tw) (hi e.tcx e.tw))
    (overlap (lo e.scy e.sh) (hi e.scy e.sh) (lo e.tcy e.th) (hi e.tcy e.th))
/-- The area the two boxes cover together, per lane. -/
def unionOf (e : Eight F) : FVec F S16 .f32 :=
  subf (addf (areaOf (lo e.scx e.sw) (lo e.scy e.sh) (hi e.scx e.sw) (hi e.scy e.sh))
    (areaOf (lo e.tcx e.tw) (lo e.tcy e.th) (hi e.tcx e.tw) (hi e.tcy e.th))) (interOf e)
/-- The area of the two boxes' hull, per lane. -/
def hullOf (e : Eight F) : FVec F S16 .f32 :=
  mulf (hull (lo e.scx e.sw) (hi e.scx e.sw) (lo e.tcx e.tw) (hi e.tcx e.tw))
    (hull (lo e.scy e.sh) (hi e.scy e.sh) (lo e.tcy e.th) (hi e.tcy e.th))

/-- One less the generalized intersection over union, per lane. -/
def lossOf (e : Eight F) : FVec F S16 .f32 :=
  subf (kc 0x3F800000#32) (giouOf (interOf e) (unionOf e) (hullOf e))

/-- The lanes of the last round that name a pair: 192 + lane below 200. -/
def valid : IVec S16 1 := cmpi .slt (shift lanes 192#32) (broadcast S16 200#32)

/-! ## The program -/

section Prog

variable (i : grid1.Coords) (arg2 : Memref sig .scVector .hbm S28800 .f32) (harg2 : arg2.IsWhole) (arg3 : Memref sig .scVector .hbm S832 .f32) (harg3 : arg3.IsWhole)
  (arg4 : Memref sig .scVector .hbm S208 .i32) (harg4 : arg4.IsWhole) (arg5 : Memref sig .scVector .hbm S32 .f32) (harg5 : arg5.IsWhole)
  (arg6 : Memref sig .scVector .vmem S28800 .f32) (harg6 : arg6.IsWhole) (arg7 : Memref sig .scVector .vmem S832 .f32) (harg7 : arg7.IsWhole)
  (arg8 : Memref sig .scVector .vmem S208 .i32) (harg8 : arg8.IsWhole) (arg9 : Memref sig .scVector .vmem S32 .f32) (harg9 : arg9.IsWhole)
  (r0 r1 r2 r3 : DmaSems sig S_) (h1 : k1_cond1 i = 1#1)

/-- One gather from the predicted boxes: its positions are checked and then read. -/
def gatherS (v : IVec S16 32) : Prog (TpuEff nD τ sig (Elt F) Λ₀ (.scVector ((i 0).castLE hcore1) ((i 1).castLE hsub1))) (Vec F S16 .f32) := do
  have hw : k1_chk1 i v := (← Prog.lift (TpuEff.assume (k1_chk1 i v) (k1_chk1.dec i v))).down
  SparseCore.vectorLoadIdx arg6 ![v] (k1_idx1_inb i v hw h1) (View.loads_vmem h_S28800)

/-- One gather from the target boxes: its positions are checked and then read. -/
def gatherT (v : IVec S16 32) : Prog (TpuEff nD τ sig (Elt F) Λ₀ (.scVector ((i 0).castLE hcore1) ((i 1).castLE hsub1))) (Vec F S16 .f32) := do
  have hw : k1_chk5 i v := (← Prog.lift (TpuEff.assume (k1_chk5 i v) (k1_chk5.dec i v))).down
  SparseCore.vectorLoadIdx arg7 ![v] (k1_idx5_inb i v hw h1) (View.loads_vmem h_S832)

/-- A round's reads: the sixteen row numbers at `o`, and the eight coordinates of the sixteen pairs. -/
def round (o : ℕ) (ho : ∀ a, (![o] : Fin 1 → Nat) a + S16.size a ≤ S208.size a) : Prog (TpuEff nD τ sig (Elt F) Λ₀ (.scVector ((i 0).castLE hcore1) ((i 1).castLE hsub1))) (Eight F) := do
  let rows : Vec F S16 .i32 ← Prog.lift (.load arg8 (Rect.unit (s := S208) ![o] S16.size ho).toLoadRect (View.loadsAt_vmem h_S16))
  let scx ← gatherS (F := F) i arg6 h1 (shift (times4 rows) 0#32)
  let scy ← gatherS (F := F) i arg6 h1 (shift (times4 rows) 1#32)
  let sw ← gatherS (F := F) i arg6 h1 (shift (times4 rows) 2#32)
  let sh ← gatherS (F := F) i arg6 h1 (shift (times4 rows) 3#32)
  let tcx ← gatherT (F := F) i arg7 h1 (shift (times4 (shift lanes (BitVec.ofNat 32 o))) 0#32)
  let tcy ← gatherT (F := F) i arg7 h1 (shift (times4 (shift lanes (BitVec.ofNat 32 o))) 1#32)
  let tw ← gatherT (F := F) i arg7 h1 (shift (times4 (shift lanes (BitVec.ofNat 32 o))) 2#32)
  let th ← gatherT (F := F) i arg7 h1 (shift (times4 (shift lanes (BitVec.ofNat 32 o))) 3#32)
  pure ⟨scx, scy, sw, sh, tcx, tcy, tw, th⟩

/-- A round's sixteen row numbers lie in the array. -/
theorem round_inb (n : ℕ) (hn : n < 13) : ∀ a, (![16 * n] : Fin 1 → Nat) a + S16.size a ≤ S208.size a := by
  intro a
  obtain rfl : a = 0 := Subsingleton.elim _ _
  show 16 * n + 16 ≤ 208
  omega

/-- The first `n` rounds, none masked: the two accumulators after them. -/
def rounds : (n : ℕ) → n ≤ 12 → Prog (TpuEff nD τ sig (Elt F) Λ₀ (.scVector ((i 0).castLE hcore1) ((i 1).castLE hsub1))) (FVec F S16 .f32 × FVec F S16 .f32)
  | 0, _ => pure (kc 0x00000000#32, kc 0x00000000#32)
  | n + 1, hn => do
    let a ← rounds n (by omega)
    let e ← round (F := F) i arg6 arg7 arg8 h1 (16 * n) (round_inb n (by omega))
    pure (addf a.1 (l1Of e), addf a.2 (lossOf e))

/-- The working subcore's program. -/
def boxProg : Prog (TpuEff nD τ sig (Elt F) Λ₀ (.scVector ((i 0).castLE hcore1) ((i 1).castLE hsub1))) PUnit := do
  Prog.lift (.enqueueDma arg2 (.here arg6) (.dma r0.sem) harg2.wordExact harg6.wordExact ⟨Or.inl rfl, trivial⟩)
  Prog.lift (.waitDma2 r0.sem arg2 arg6 harg2.wordExact harg6.wordExact)
  Prog.lift (.enqueueDma arg3 (.here arg7) (.dma r1.sem) harg3.wordExact harg7.wordExact ⟨Or.inl rfl, trivial⟩)
  Prog.lift (.waitDma2 r1.sem arg3 arg7 harg3.wordExact harg7.wordExact)
  Prog.lift (.enqueueDma arg4 (.here arg8) (.dma r2.sem) harg4.wordExact harg8.wordExact ⟨Or.inl rfl, trivial⟩)
  Prog.lift (.waitDma2 r2.sem arg4 arg8 harg4.wordExact harg8.wordExact)
  let a ← rounds (F := F) i arg6 arg7 arg8 h1 12 le_rfl
  let e ← round (F := F) i arg6 arg7 arg8 h1 (16 * 12) (round_inb 12 (by omega))
  let _x : Vec F S16 .f32 ← Prog.lift (.load arg9 (Rect.unit (s := S32) ![0] S16.size inb_S32_S16_0).toLoadRect (View.loadsAt_vmem h_S16))
  Prog.lift (.store arg9 (Rect.unit (s := S32) ![0] S16.size inb_S32_S16_0) (addf a.1 (select valid (l1Of e) (kc 0x00000000#32))) Finset.univ (View.stores_vmem_bits_univ h_S16 rfl) (.inl rfl))
  let _y : Vec F S16 .f32 ← Prog.lift (.load arg9 (Rect.unit (s := S32) ![16] S16.size inb_S32_S16_16).toLoadRect (View.loadsAt_vmem h_S16))
  Prog.lift (.store arg9 (Rect.unit (s := S32) ![16] S16.size inb_S32_S16_16) (addf a.2 (select valid (lossOf e) (kc 0x00000000#32))) Finset.univ (View.stores_vmem_bits_univ h_S16 rfl) (.inl rfl))
  Prog.lift (.enqueueDma arg9 (.here arg5) (.dma r3.sem) harg9.wordExact harg5.wordExact ⟨Or.inl rfl, trivial⟩)
  Prog.lift (.waitDma2 r3.sem arg9 arg5 harg9.wordExact harg5.wordExact)
  pure ⟨⟩

end Prog

end Cert.Proof.Ideal

end
-- ==== Proof.Ideal.BoxVal.lean ====
/-
  What the working subcore computes, as a function of the three arrays it fetches: the flat predicted boxes, the flat
  target boxes padded to 832 words, and the 208 row numbers.
-/
module

public import proofs.«01_k».proof.Proof.Ideal.BoxProg

@[expose] public section

noncomputable section

namespace Cert.Proof.Ideal

open Cert.KernelIdeal Cert.KernelIdeal.Gen
open Idealize.ShloMosaic Idealize.SL.Sem

variable {F : FTy → Type} [FloatOps F]

/-- The index of a one-dimensional shape at `k` (taken modulo the extent, so that it is total). -/
def at1 (n : ℕ) (hn : 0 < n) (k : ℕ) : Shape.Idx ⟨1, ![n]⟩ := fun a => ⟨k % n, by
  obtain rfl : a = 0 := Subsingleton.elim _ _
  exact Nat.mod_lt _ hn⟩

/-- An index whose one coordinate is `k` is the index at `k`. -/
theorem at1_ext {n : ℕ} (hn : 0 < n) {k : ℕ} (j : Shape.Idx ⟨1, ![n]⟩) (h : (j 0).val = k) : j = at1 n hn k := by
  funext a
  obtain rfl : a = 0 := Subsingleton.elim _ _
  apply Fin.ext
  have hj : (j 0).val < n := (j 0).isLt
  show (j 0).val = k % n
  rw [Nat.mod_eq_of_lt (h ▸ hj), h]

/-- Sixteen words of a flat array, at sixteen positions. -/
def pick {e : EltTy} (n : ℕ) (hn : 0 < n) (b : Shape.Idx ⟨1, ![n]⟩ → Elt F e) (v : IVec S16 32) : Vec F S16 e :=
  fun x => b (at1 n hn (v x).toNat)

variable (sb : S28800.Idx → Elt F .f32) (tb : S832.Idx → Elt F .f32) (ix : S208.Idx → Elt F .i32)

/-- The row numbers of round `n`. -/
def rowsOf (n : ℕ) : IVec S16 32 := fun x => ix (at1 208 (by decide) (16 * n + (x 0).val))

/-- The pairs' numbers of round `n`. -/
def pairsOf (n : ℕ) : IVec S16 32 := shift lanes (BitVec.ofNat 32 (16 * n))

/-- The coordinates of round `n`'s sixteen pairs. -/
def eightAt (n : ℕ) : Eight F :=
  ⟨pick 28800 (by decide) sb (shift (times4 (rowsOf (F := F) ix n)) 0#32), pick 28800 (by decide) sb (shift (times4 (rowsOf (F := F) ix n)) 1#32),
    pick 28800 (by decide) sb (shift (times4 (rowsOf (F := F) ix n)) 2#32), pick 28800 (by decide) sb (shift (times4 (rowsOf (F := F) ix n)) 3#32),
    pick 832 (by decide) tb (shift (times4 (pairsOf n)) 0#32), pick 832 (by decide) tb (shift (times4 (pairsOf n)) 1#32),
    pick 832 (by decide) tb (shift (times4 (pairsOf n)) 2#32), pick 832 (by decide) tb (shift (times4 (pairsOf n)) 3#32)⟩

/-- The two accumulators after the first `n` rounds. -/
def accOf : ℕ → FVec F S16 .f32 × FVec F S16 .f32
  | 0 => (kc 0x00000000#32, kc 0x00000000#32)
  | n + 1 => (addf (accOf n).1 (l1Of (eightAt sb tb ix n)), addf (accOf n).2 (lossOf (eightAt sb tb ix n)))

/-- The two accumulators at the end: the last round's lanes past the 200th pair add nothing. -/
def l1Acc : FVec F S16 .f32 := addf (accOf sb tb ix 12).1 (select valid (l1Of (eightAt sb tb ix 12)) (kc 0x00000000#32))
/-- The second accumulator at the end, likewise. -/
def lossAcc : FVec F S16 .f32 := addf (accOf sb tb ix 12).2 (select valid (lossOf (eightAt sb tb ix 12)) (kc 0x00000000#32))

/-- The 32 words written out: the first accumulator's lanes, then the second's. -/
def boxOut : S32.Idx → Elt F .f32 := fun j =>
  if (j 0).val < 16 then l1Acc sb tb ix (at1 16 (by decide) (j 0).val) else lossAcc sb tb ix (at1 16 (by decide) ((j 0).val - 16))

/-! ## The positions are in range -/

/-- Every row number names a row. -/
def RowsOK (ix : S208.Idx → Elt F .i32) : Prop := ∀ j, (show BitVec 32 from ix j).toNat < 7200

/-- Four times a row number, as a natural number. -/
theorem times4_toNat (v : IVec S16 32) (x : S16.Idx) (h : (v x).toNat < 7200) : (times4 v x).toNat = 4 * (v x).toNat := by
  show (v x * 4#32).toNat = _
  rw [BitVec.toNat_mul, show (4#32 : BitVec 32).toNat = 4 from rfl, Nat.mod_eq_of_lt (by omega)]
  omega

/-- A shifted position, as a natural number. -/
theorem shift_toNat (v : IVec S16 32) (c : BitVec 32) (x : S16.Idx) (h : (v x).toNat + c.toNat < 4294967296) :
    (shift v c x).toNat = (v x).toNat + c.toNat := by
  show (v x + c).toNat = _
  rw [BitVec.toNat_add, Nat.mod_eq_of_lt (by omega)]

/-- A lane's number. -/
theorem lanes_toNat (x : S16.Idx) : (lanes x).toNat = (x 0).val := by
  have hx : (x 0).val < 16 := (x 0).isLt
  show (BitVec.ofNat 32 (0 * 16 + (x 0).val)).toNat = _
  rw [BitVec.toNat_ofNat, Nat.zero_mul, Nat.zero_add, Nat.mod_eq_of_lt (by omega)]

/-- The number of a lane's pair. -/
theorem pairsOf_toNat (n : ℕ) (hn : n < 13) (x : S16.Idx) : (pairsOf n x).toNat = 16 * n + (x 0).val := by
  have hx : (x 0).val < 16 := (x 0).isLt
  have hc : (BitVec.ofNat 32 (16 * n)).toNat = 16 * n := by rw [BitVec.toNat_ofNat, Nat.mod_eq_of_lt (by omega)]
  unfold pairsOf
  rw [shift_toNat _ _ _ (by rw [lanes_toNat, hc]; omega), lanes_toNat, hc, Nat.add_comm]

/-- The positions of a row's four coordinates. -/
theorem posS_toNat (hix : RowsOK (F := F) ix) (n : ℕ) (c : BitVec 32) (hc : c.toNat < 4) (x : S16.Idx) :
    (shift (times4 (rowsOf (F := F) ix n)) c x).toNat = 4 * (rowsOf (F := F) ix n x).toNat + c.toNat := by
  have h : (rowsOf (F := F) ix n x).toNat < 7200 := hix _
  rw [shift_toNat _ _ _ (by rw [times4_toNat _ _ h]; omega), times4_toNat _ _ h]

/-- The positions in the predicted boxes lie in the array. -/
theorem posS_lt (hix : RowsOK (F := F) ix) (n : ℕ) (c : BitVec 32) (hc : c.toNat < 4) (x : S16.Idx) :
    (shift (times4 (rowsOf (F := F) ix n)) c x).toNat < 28800 := by
  have h : (rowsOf (F := F) ix n x).toNat < 7200 := hix _
  rw [posS_toNat ix hix n c hc]
  omega

/-- The positions of a pair's four target coordinates. -/
theorem posT_toNat (n : ℕ) (hn : n < 13) (c : BitVec 32) (hc : c.toNat < 4) (x : S16.Idx) :
    (shift (times4 (pairsOf n)) c x).toNat = 4 * (16 * n + (x 0).val) + c.toNat := by
  have hx : (x 0).val < 16 := (x 0).isLt
  have h : (pairsOf n x).toNat < 7200 := by rw [pairsOf_toNat n hn]; omega
  rw [shift_toNat _ _ _ (by rw [times4_toNat _ _ h]; omega), times4_toNat _ _ h, pairsOf_toNat n hn]

/-- The positions in the targets lie in the array. -/
theorem posT_lt (n : ℕ) (hn : n < 13) (c : BitVec 32) (hc : c.toNat < 4) (x : S16.Idx) :
    (shift (times4 (pairsOf n)) c x).toNat < 832 := by
  have hx : (x 0).val < 16 := (x 0).isLt
  rw [posT_toNat n hn c hc]
  omega

end Cert.Proof.Ideal

end
-- ==== Proof.Ideal.Setup.lean ====
/-
  What the parts of the kernel's proof share: the program as the launch theorem sees it, and the resource algebra (the
  SparseCore handshakes' rounds, the TensorCore pipeline's rounds, the counters of the subcore's own copies).
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen
open Idealize.ShloMosaic
open Idealize.ShloMosaic.SparseCore.Cfg (HIx)
open Idealize.SL Idealize.SL.RA Idealize.SL.BI Idealize.SL.Sem
open Idealize.ShloMosaic.Rounds

variable {F : FTy → Type}

/-- The labels of the program below the SparseCore calls. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The bodies below the SparseCore calls. -/
abbrev D [FloatOps F] : Defs nD τ sig (Elt F) (ΛP (F := F)) := Pipeline.defs pcfgs defs₀
/-- No variants are needed. -/
abbrev 𝒱₀ : Variants := Variants.none
/-- The same, lifted to the launch. -/
abbrev 𝒱 : Variants := 𝒱₀.lift
/-- The only variant there is. -/
abbrev v₀ : 𝒱.V := Sum.inl none

/-- The call's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, -/
abbrev UH : Type := URounds (GSem nD τ sig) ℕ
/-- the pipeline's, -/
abbrev UP : Type := URounds (GSem nD τ sig) Unit
/-- and both beside the copies' counters. -/
abbrev UU : Type := UH × (UP × Counters)

/-- Where the handshakes' rounds are kept. -/
abbrev EH : Emb UH (MT nD τ sig (HIx 1) (Elt F) ℕ UU ℕ) := embL
/-- Where the pipeline's rounds are kept. -/
abbrev EP : Emb UP (MT nD τ sig (HIx 1) (Elt F) ℕ UU ℕ) := (Emb.inl : Emb UP (UP × Counters)).trans embR

/-- The pipeline's rounds lie inside the launch's ghost state. -/
instance EP_landsIn : (EP (F := F)).LandsIn (upEmb : UEmb _ (MT nD τ sig (HIx 1) (Elt F) ℕ UU ℕ)) := by
  unfold EP; infer_instance

end Cert.Proof.Ideal

end
-- ==== Proof.Ideal.CeBody.lean ====
/-
  The cross-entropy kernel's body at one point: it leaves in the accumulator's buffer what was there (at the first point,
  zeros) plus the point's column sums.
-/
module

public import proofs.«01_k».proof.Proof.Ideal.Setup
public import proofs.«01_k».proof.Proof.Gen.KernelIdeal.Launch
public import proofs.«01_k».proof.Proof.Gen.KernelIdeal.Points
public import Idealize.ShloMosaic.Lib.Pipeline.Value

@[expose] public section

noncomputable section

namespace Cert.Proof.Ideal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A staging buffer held whole. -/
abbrev stg (c : Dev nD) {S : Shape} {e : EltTy} (M : Memref sig .tc .vmem S e) (f : Buf (Elt F) (M.view.loc (c : Thread nD τ))) : sProp 𝕄 :=
  M.view.loc (c : Thread nD τ) ↦{fullShare} f

/-- One point of the accumulation: the accumulator plus the column sums of the point's focal losses. -/
def ceStep (x : Vec F S1x900x91 .f32) (a : Vec F S1x25x1 .i32) (b l : Vec F S1x1x25 .i32) (acc : Vec F S1x91 .f32) : Vec F S1x91 .f32 :=
  k0_pay4 (k0_pay1 x) (k0_pay2 a b l) acc

/-- Two zero offsets. -/
theorem zero2 : (![0, 0] : Fin 2 → Nat) = fun _ => 0 := funext fun a => by fin_cases a <;> rfl
/-- Three zero offsets. -/
theorem zero3 : (![0, 0, 0] : Fin 3 → Nat) = fun _ => 0 := funext fun a => by fin_cases a <;> rfl

/-- The accumulator's stores cover it. -/
theorem full_mem (y : S1x91.Idx) : y ∈ (Rect.unit (s := S1x91) ![0, 0] S1x91.size inb_S1x91_S1x91_0_0).set := by
  rw [Rect.mem_set_unit]
  intro a
  have := (y a).isLt
  fin_cases a <;> exact ⟨Nat.zero_le _, by simpa using this⟩

/-- After a store that covers it the accumulator's buffer reads as what was stored. -/
theorem read_last (v : View sig .tc .vmem S1x91 .f32) (f : v.ty.Contents (Elt F)) (w : S1x91.Idx → Elt F .f32) (L : List (View.Piece (Elt F) S1x91 .f32)) :
    v.read (Elt F) (v.writes (Elt F) f (⟨Rect.unit (s := S1x91) ![0, 0] S1x91.size inb_S1x91_S1x91_0_0, w⟩ :: L)) = w :=
  (View.read_writes_eq_canon v f _ fun y => ⟨⟨Rect.unit (s := S1x91) ![0, 0] S1x91.size inb_S1x91_S1x91_0_0, w⟩, List.mem_cons_self, full_mem y⟩).trans
    (View.canon_cons_unit_zero (S := S1x91) zero2 _ w L)

/-- The body's test for the first point. -/
def atFirst (i : grid0.Coords) : BitVec 1 := Scalar.cmpi .ne (Scalar.extui (Scalar.cmpi .eq (BitVec.ofNat 32 (i 0).val) 0#32) : BitVec 32) 0#32

/-- The reset runs at the first image alone. -/
theorem atFirst_iff : ∀ i : grid0.Coords, atFirst i = 1#1 ↔ (i 0).val = 0 := by
  intro i
  unfold atFirst
  generalize i 0 = a
  revert a
  decide

variable (c : Dev nD) (i : grid0.Coords) (M1 : Memref sig .tc .vmem S1x900x91 .f32) (h1 : M1.IsWhole) (M2 : Memref sig .tc .vmem S1x25x1 .i32) (h2 : M2.IsWhole)
  (M3 : Memref sig .tc .vmem S1x1x25 .i32) (h3 : M3.IsWhole) (M4 : Memref sig .tc .vmem S1x1x25 .i32) (h4 : M4.IsWhole)
  (M5 : Memref sig .tc .vmem S1x91 .f32) (h5 : M5.IsWhole)
  (f1 : Buf (Elt F) (M1.view.loc (c : Thread nD τ))) (f2 : Buf (Elt F) (M2.view.loc (c : Thread nD τ))) (f3 : Buf (Elt F) (M3.view.loc (c : Thread nD τ)))
  (f4 : Buf (Elt F) (M4.view.loc (c : Thread nD τ))) (f5 : Buf (Elt F) (M5.view.loc (c : Thread nD τ))) (E : Set ℕ)

/-- At the first point the body starts from zeros. -/
theorem ce_first (hi : atFirst i = 1#1) (Q : PUnit → sProp 𝕄) :
    iprop(stg c M1 f1 ∗ stg c M2 f2 ∗ stg c M3 f3 ∗ stg c M4 f4 ∗ stg c M5 f5
        ∗ (∀ W, ⌜M5.view.read (Elt F) W = ceStep (M1.view.read (Elt F) f1) (M2.view.read (Elt F) f2) (M3.view.read (Elt F) f3) (M4.view.read (Elt F) f4) k0_pay3⌝
            -∗ iprop(stg c M1 f1 ∗ stg c M2 f2 ∗ stg c M3 f3 ∗ stg c M4 f4 ∗ stg c M5 W) -∗ Q ⟨⟩))
      ⊢ wp frame (wpE (defs₀ (F := F)) 𝒱₀ (c : Thread nD τ) none) E (cc0__ce_body i M1 h1 M2 h2 M3 h3 M4 h4 M5 h5) Q := by
  rw [cc0__ce_body_eq_skeleton]; unfold cc0__ce_body_skel
  rw [k0_part2_eq_skeleton]; unfold k0_part2_skel
  rw [k0_part1_eq_skeleton]; unfold k0_part1_skel
  simp only [Prog.lift, Prog.bind_op, Prog.bind_ret, Prog.pure_eq_ret, dif_pos (show Scalar.cmpi .ne (Scalar.extui (Scalar.cmpi .eq (BitVec.ofNat 32 (i 0).val) 0#32) : BitVec 32) 0#32 = 1#1 from hi)]
  iintro ⟨H1, H2, H3, H4, H5, Hk⟩
  sl_exec!
  sl_step
  iapply Hk $$ [] [H1 H2 H3 H4 H5]
  rotate_left
  · isplitl [H1]; · iexact H1
    isplitl [H2]; · iexact H2
    isplitl [H3]; · iexact H3
    isplitl [H4]; · iexact H4
    iexact H5
  · ipureintro
    sl_unfold_words
    rw [read_last]
    rw [View.readCov_unit_zero (S := S1x91) _ zero2]
    simp only [View.readAt_eq_ld, View.ld_unit_zero (S := S1x900x91) zero3, View.ld_unit_zero (S := S1x25x1) zero3, View.ld_unit_zero (S := S1x1x25) zero3]
    rfl

/-- At a later point the body adds to what the point before left. -/
theorem ce_later (hi : ¬ atFirst i = 1#1) (Q : PUnit → sProp 𝕄) :
    iprop(stg c M1 f1 ∗ stg c M2 f2 ∗ stg c M3 f3 ∗ stg c M4 f4 ∗ stg c M5 f5
        ∗ (∀ W, ⌜M5.view.read (Elt F) W = ceStep (M1.view.read (Elt F) f1) (M2.view.read (Elt F) f2) (M3.view.read (Elt F) f3) (M4.view.read (Elt F) f4) (M5.view.read (Elt F) f5)⌝
            -∗ iprop(stg c M1 f1 ∗ stg c M2 f2 ∗ stg c M3 f3 ∗ stg c M4 f4 ∗ stg c M5 W) -∗ Q ⟨⟩))
      ⊢ wp frame (wpE (defs₀ (F := F)) 𝒱₀ (c : Thread nD τ) none) E (cc0__ce_body i M1 h1 M2 h2 M3 h3 M4 h4 M5 h5) Q := by
  rw [cc0__ce_body_eq_skeleton]; unfold cc0__ce_body_skel
  rw [k0_part2_eq_skeleton]; unfold k0_part2_skel
  rw [k0_part1_eq_skeleton]; unfold k0_part1_skel
  simp only [Prog.lift, Prog.bind_op, Prog.bind_ret, Prog.pure_eq_ret, dif_neg (show ¬ Scalar.cmpi .ne (Scalar.extui (Scalar.cmpi .eq (BitVec.ofNat 32 (i 0).val) 0#32) : BitVec 32) 0#32 = 1#1 from hi)]
  iintro ⟨H1, H2, H3, H4, H5, Hk⟩
  sl_exec!
  sl_step
  iapply Hk $$ [] [H1 H2 H3 H4 H5]
  rotate_left
  · isplitl [H1]; · iexact H1
    isplitl [H2]; · iexact H2
    isplitl [H3]; · iexact H3
    isplitl [H4]; · iexact H4
    iexact H5
  · ipureintro
    sl_unfold_words
    rw [read_last]
    simp only [View.readAt_eq_ld, View.ld_unit_zero (S := S1x900x91) zero3, View.ld_unit_zero (S := S1x25x1) zero3, View.ld_unit_zero (S := S1x1x25) zero3, View.ld_unit_zero (S := S1x91) zero2]
    rfl

end Cert.Proof.Ideal

end
-- ==== Proof.Ideal.CeRegion.lean ====
/-
  The cross-entropy kernel as a region of @main: the proof data of its pipeline (the accumulator after each point), its
  body's obligation, what the result array holds at the end, and the region over the thread's buffers.
-/
module

public import proofs.«01_k».proof.Proof.Ideal.CeBody
public import Idealize.ShloMosaic.Lib.Pipeline.RegionsLoop

@[expose] public section

noncomputable section

namespace Cert.Proof.Ideal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

omit [FloatOps F] in
/-- Owning a whole staging buffer's contents is its points-to. -/
theorem owns_stg (c : Dev nD) {S : Shape} {e : EltTy} (M : Memref sig .tc .vmem S e) (h : M.IsWhole) (X : S.Idx → Elt F e) :
    (owns (c : Thread nD τ) M fullShare X : sProp 𝕄) = iprop(∃ f, ⌜M.view.read (Elt F) f = X⌝ ∗ stg c M f) := by
  unfold owns; rw [h.set_eq_univ]

variable (V : (c : Dev nD) → (b : Ref sig .tc) → Buf (Elt F) ((c : Thread nD τ).loc b))

/-- The blocks the pipeline stages at a point: the logits, -/
def blkX (c : Dev nD) (t : Fin cfg0.N) : Vec F S1x900x91 .f32 := ((cfg0.win 0).blk t).view.read (Elt F) (V c main_arg0)
/-- the matched rows as a column, -/
def blkA (c : Dev nD) (t : Fin cfg0.N) : Vec F S1x25x1 .i32 := ((cfg0.win 1).blk t).view.read (Elt F) (V c main_v0)
/-- the matched rows as a row, -/
def blkB (c : Dev nD) (t : Fin cfg0.N) : Vec F S1x1x25 .i32 := ((cfg0.win 2).blk t).view.read (Elt F) (V c main_v1)
/-- and the labels. -/
def blkL (c : Dev nD) (t : Fin cfg0.N) : Vec F S1x1x25 .i32 := ((cfg0.win 3).blk t).view.read (Elt F) (V c main_v2)

/-- The accumulator after a point. -/
def accAt (c : Dev nD) : (n : ℕ) → n < cfg0.N → Vec F S1x91 .f32
  | 0, h => ceStep (blkX V c ⟨0, h⟩) (blkA V c ⟨0, h⟩) (blkB V c ⟨0, h⟩) (blkL V c ⟨0, h⟩) k0_pay3
  | n + 1, h => ceStep (blkX V c ⟨n + 1, h⟩) (blkA V c ⟨n + 1, h⟩) (blkB V c ⟨n + 1, h⟩) (blkL V c ⟨n + 1, h⟩) (accAt c n (Nat.lt_of_succ_lt h))

/-- The proof data of the region: the arrays as the thread has them, each input's buffer left as fetched, the accumulator's
    at `accAt`, the start signals of the SparseCore call owed throughout, and only waits below that call recorded. -/
def ceDat (c : Dev nD) : Dat τ (Elt F) (HIx 1) ℕ UU ℕ cfg0 c where
  A w := V c (Pipeline.arrRef spec0 w)
  after w t := match w with
    | ⟨0, _⟩ => blkX V c t
    | ⟨1, _⟩ => blkA V c t
    | ⟨2, _⟩ => blkB V c t
    | ⟨3, _⟩ => blkL V c t
    | ⟨4, _⟩ => accAt V c t.val t.isLt
    | ⟨_ + 5, h⟩ => absurd h (Nat.not_lt.2 (Nat.le_add_left _ _))
  Φ _ := Pipeline.scopedRest (Ix := HIx 1) (Name := ℕ) (U := UU) (Lvl := ℕ) (Val := Elt F) spec0 c
  q _ := fullShare
  owed _ := (K (F := F)).Otc c 0
  recorded _ := {p | (K (F := F)).lev ((c : Thread nD τ), p.1) p.2 ≤ 0}

/-- At a point the logits' buffer holds their block, -/
theorem before_0 (c : Dev nD) (t : Fin cfg0.N) (d) : (ceDat V c).before 0 t d = blkX V c t :=
  ((ceDat V c).before_fetched 0 t (fetch0_0 t) d).trans rfl
/-- the rows' columns theirs, -/
theorem before_1 (c : Dev nD) (t : Fin cfg0.N) (d) : (ceDat V c).before 1 t d = blkA V c t :=
  ((ceDat V c).before_fetched 1 t (fetch0_1 t) d).trans rfl
/-- the rows' rows theirs, -/
theorem before_2 (c : Dev nD) (t : Fin cfg0.N) (d) : (ceDat V c).before 2 t d = blkB V c t :=
  ((ceDat V c).before_fetched 2 t (fetch0_2 t) d).trans rfl
/-- the labels theirs, -/
theorem before_3 (c : Dev nD) (t : Fin cfg0.N) (d) : (ceDat V c).before 3 t d = blkL V c t :=
  ((ceDat V c).before_fetched 3 t (fetch0_3 t) d).trans rfl
/-- and, after the first point, the accumulator's what the point before left. -/
theorem before_4 (c : Dev nD) (n : ℕ) (h : n + 1 < cfg0.N) (d) :
    (ceDat V c).before 4 ⟨n + 1, h⟩ d = accAt V c n (Nat.lt_of_succ_lt h) := by
  have hN : cfg0.N = 8 := N_0
  refine ((ceDat V c).before_out_kept 4 rfl ⟨n + 1, h⟩ (Nat.succ_ne_zero n) ?_ (fun _ => rfl) (fun _ _ => rfl) d).trans rfl
  rw [← Bool.not_eq_true, flush0_4]
  dsimp only
  omega

/-- The body at a point, from its five buffers: it leaves the inputs' as they were and the accumulator's at `accAt`. -/
theorem ce_point (c : Dev nD) (t : Fin cfg0.N) (E : Set ℕ) (Q : PUnit → sProp 𝕄) :
    iprop((∃ d, owns (c : Thread nD τ) (st0_0 t) fullShare ((ceDat V c).before 0 t d)) ∗ (∃ d, owns (c : Thread nD τ) (st0_1 t) fullShare ((ceDat V c).before 1 t d))
        ∗ (∃ d, owns (c : Thread nD τ) (st0_2 t) fullShare ((ceDat V c).before 2 t d)) ∗ (∃ d, owns (c : Thread nD τ) (st0_3 t) fullShare ((ceDat V c).before 3 t d))
        ∗ (∃ d, owns (c : Thread nD τ) (st0_4 t) fullShare ((ceDat V c).before 4 t d))
        ∗ (iprop(owns (c : Thread nD τ) (st0_0 t) fullShare (blkX V c t) ∗ owns (c : Thread nD τ) (st0_1 t) fullShare (blkA V c t)
            ∗ owns (c : Thread nD τ) (st0_2 t) fullShare (blkB V c t) ∗ owns (c : Thread nD τ) (st0_3 t) fullShare (blkL V c t)
            ∗ owns (c : Thread nD τ) (st0_4 t) fullShare (accAt V c t.val t.isLt)) -∗ Q ⟨⟩))
      ⊢ wp frame (wpE (defs₀ (F := F)) 𝒱₀ (c : Thread nD τ) none) E (bodyAt0 (F := F) t) Q := by
  have o0 := fun X => owns_stg (F := F) c (st0_0 t) (hstage0_0 ((cfg0.slots t 0).cast nbuf0_0)) X
  have o1 := fun X => owns_stg (F := F) c (st0_1 t) (hstage0_1 ((cfg0.slots t 1).cast nbuf0_1)) X
  have o2 := fun X => owns_stg (F := F) c (st0_2 t) (hstage0_2 ((cfg0.slots t 2).cast nbuf0_2)) X
  have o3 := fun X => owns_stg (F := F) c (st0_3 t) (hstage0_3 ((cfg0.slots t 3).cast nbuf0_3)) X
  have o4 := fun X => owns_stg (F := F) c (st0_4 t) (hstage0_4 ((cfg0.slots t 4).cast nbuf0_4)) X
  have hN : cfg0.N = 8 := N_0
  have hc0 : (grid0.coords t 0).val = t.val := by
    rcases fin_N0 t with rfl | rfl | rfl | rfl | rfl | rfl | rfl | rfl <;> decide
  simp only [before_0, before_1, before_2, before_3]
  rw [o0, o1, o2, o3, o4 (accAt V c t.val t.isLt)]
  iintro ⟨⟨%d0, %f0, %e0, H0⟩, ⟨%d1, %f1, %e1, H1⟩, ⟨%d2, %f2, %e2, H2⟩, ⟨%d3, %f3, %e3, H3⟩, ⟨%d4, H4⟩, Hk⟩
  ihave H4 := (Entails.of_eq (o4 ((ceDat V c).before 4 t d4))) $$ H4
  icases H4 with ⟨%f4, %e4, H4⟩
  by_cases h0 : t.val = 0
  · iapply (ce_first c (grid0.coords t) _ _ _ _ _ _ _ _ _ _ f0 f1 f2 f3 f4 E ((atFirst_iff _).mpr (hc0.trans h0)) Q)
    isplitl [H0]; · iexact H0
    isplitl [H1]; · iexact H1
    isplitl [H2]; · iexact H2
    isplitl [H3]; · iexact H3
    isplitl [H4]; · iexact H4
    iintro %W %hW ⟨H0, H1, H2, H3, H4⟩
    iapply Hk
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    iexists W; isplitr
    · ipureintro
      rw [hW, e0, e1, e2, e3]
      obtain ⟨n, hn⟩ := t
      obtain rfl : n = 0 := h0
      rfl
    · iexact H4
  · iapply (ce_later c (grid0.coords t) _ _ _ _ _ _ _ _ _ _ f0 f1 f2 f3 f4 E (fun h => h0 (hc0.symm.trans ((atFirst_iff _).mp h))) Q)
    isplitl [H0]; · iexact H0
    isplitl [H1]; · iexact H1
    isplitl [H2]; · iexact H2
    isplitl [H3]; · iexact H3
    isplitl [H4]; · iexact H4
    iintro %W %hW ⟨H0, H1, H2, H3, H4⟩
    iapply Hk
    isplitl [H0]; · iexists f0; isplitr; · ipureintro; exact e0
                    iexact H0
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    iexists W; isplitr
    · ipureintro
      rw [hW, e0, e1, e2, e3, e4]
      obtain ⟨n, hn⟩ := t
      obtain ⟨k, rfl⟩ := Nat.exists_eq_succ_of_ne_zero h0
      rw [before_4 V c k hn]
      rfl
    · iexact H4

/-- The body's obligation at every point. -/
theorem ce_obligation (c : Dev nD) : BodyObligation (ceDat V c) (defs₀ (F := F)) 𝒱₀ (none : HIx 1) Set.univ := by
  intro t
  rw [bigSep_W0, bigSep_W0]
  dsimp only
  rw [show (ceDat V c).Φ t.castSucc = (ceDat V c).Φ t.succ from rfl,
    show (ceDat V c).owesAt none t.castSucc = (ceDat V c).owesAt none t.succ from rfl]
  iintro ⟨HΦ, Howes, H0, H1, H2, H3, H4⟩
  iapply (ce_point V c t Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The accumulator after the last point, as the result's array. -/
def ceOut (c : Dev nD) : Buf (Elt F) ((c : Thread nD τ).loc main_v3) := accAt V c 7 (by rw [show cfg0.N = 8 from N_0]; decide)

/-- The one write-back, after the last point, writes it whole. -/
theorem ce_flushed (c : Dev nD) (t : Fin cfg0.N) (hf : (cfg0.win 4).flush t = true) :
    (ceDat V c).flushed 4 t = ((cfg0.win 4).blk t).view.read (Elt F) (ceOut V c) := by
  have hN : cfg0.N = 8 := N_0
  have h7 : t.val = 7 := by have := (flush0_4 t).mp hf; have := t.isLt; omega
  obtain rfl : t = t0_7 := Fin.ext h7
  have hz : (fun a => win0_4.index t0_7 a * main_v3.ty.shape.size a) = fun _ => 0 := funext fun a => by fin_cases a <;> decide
  exact (Memref.read_access_unit_zero (Elt F) main_v3 hz (fun a => by rw [congrFun hz a]; simp) (ceOut V c)).symm

/-- So the result's array ends holding it. -/
theorem ce_final (c : Dev nD) : (ceDat V c).arrAt 4 cfg0.N = ceOut V c :=
  (ceDat V c).arrAt_eq_of_cover 4 (ceOut V c) (ce_flushed V c) fun i =>
    ⟨t0_7, (flush0_4 t0_7).mpr rfl, by
      show i ∈ ((View.whole main_v3).slice (win0_4.rect t0_7)).set
      rw [View.set_slice_whole, Rect.mem_set_unit]
      intro a
      have h0 : (i 0 : Nat) < 1 := (i 0).isLt
      have h1 : (i 1 : Nat) < 91 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 91 from by decide +kernel]; omega⟩

/-! ## The region over the thread's buffers -/

/-- No operand is prefetched. -/
abbrev adm : (p : Fin 1) → (pcfgs (F := F) p).Adm := fun p => (cfgs p).toPCfg_adm

/-- The proof data of every pipeline: there is one. -/
def ceDats : (p : Fin 1) → (c : Dev nD) → Dat τ (Elt F) (HIx 1) ℕ UU ℕ (Pipeline.pin (pcfgs (F := F)) adm p) c
  | ⟨0, _⟩ => fun c => ceDat V c

omit [FloatOps F] in
/-- The start signals owed are not at the region's own index. -/
theorem otc_none (c : Dev nD) (g : GSem nD τ sig) : (K (F := F)).Otc (nD := nD) (N := 1) c 0 g none = 0 := by
  unfold SparseCore.Cfg.Otc
  simp only [Finset.sum_apply, Finsupp.finset_sum_apply, Finset.sum_ite, tallyAt, tallyOn]
  refine Finset.sum_eq_zero fun q _ => ?_
  split_ifs
  · simp only [Finset.sum_apply, Finsupp.finset_sum_apply]
    refine Finset.sum_eq_zero fun i _ => ?_
    rw [Pi.single_apply]
    split_ifs
    · exact Finsupp.single_eq_of_ne (by simp)
    · rfl
  · rfl

/-- What rides along: the start signals owed, only waits below the SparseCore call recorded. -/
abbrev owing (c : Dev nD) : sProp 𝕄 :=
  iprop(∃ W, ⌜(K (F := F)).WBelow (c : Thread nD τ) W 0⌝ ∗ owes (c : Thread nD τ) ((K (F := F)).Otc c 0) W)

variable (Vp : (c : Dev nD) → (b : Ref sig .tc) → Buf (Elt F) ((c : Thread nD τ).loc b))

set_option backward.isDefEq.respectTransparency.types false in
/-- The region: entered with every unscoped buffer at `V`, left with them at `Vp`, which has the result's array at the last
    accumulator and is `V` elsewhere. -/
def ceReg (hout : ∀ c, Vp c main_v3 = ceOut V c) (hne : ∀ c (b : Ref sig .tc), b ≠ main_v3 → Vp c b = V c b) :
    Pipeline.RegionSeg (pcfgs (F := F)) adm (ceDats V) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (ce_obligation V c).loose
  hwaits c := Pipeline.cellsWaits_intro _ _ _ _ _ fun w s t => (K (F := F)).mayWait_none _ (otc_none c)
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (ceDats V) (launch0).win (launch0).arr_whole c
      ((ceDats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (ceDats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (ceDats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (ceDats V) ((ceDats V 0 c).share_full fun _ => rfl) (V c) (Vp c) ((ceDats V 0 c).arrAt · cfg0.N)
      (fun w => by
        fin_cases w
        · exact ((ceDats V 0 c).arrAt_in 0 rfl _).trans (hne c main_arg0 (by decide)).symm
        · exact ((ceDats V 0 c).arrAt_in 1 rfl _).trans (hne c main_v0 (by decide)).symm
        · exact ((ceDats V 0 c).arrAt_in 2 rfl _).trans (hne c main_v1 (by decide)).symm
        · exact ((ceDats V 0 c).arrAt_in 3 rfl _).trans (hne c main_v2 (by decide)).symm
        · exact (ce_final V c).trans (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact le_rfl
    iexact HO

end Cert.Proof.Ideal

end
-- ==== Proof.Ideal.Host.lean ====
/-
  @main's host operations as three lists (before the cross-entropy region, between it and the SparseCore call, after the
  call), @main as their composition, and what every buffer holds at each stage.
-/
module

public import proofs.«01_k».proof.Proof.Ideal.BoxVal
public import proofs.«01_k».proof.Proof.Ideal.CeRegion

@[expose] public section

noncomputable section

namespace Cert.Proof.Ideal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-- The operations before the cross-entropy region. -/
abbrev pre : List (HloOp τ sig (Elt F)) :=
  [unary main_arg4 main_v0 (broadcastInDim S8x25x1 ![0, 1] bcast_S8x25_S8x25x1_0_1 : (⟨S8x25, .i32⟩ : BufTy).Contents (Elt F) → (⟨S8x25x1, .i32⟩ : BufTy).Contents (Elt F)),
    unary main_arg4 main_v1 (broadcastInDim S8x1x25 ![0, 2] bcast_S8x25_S8x1x25_0_2 : (⟨S8x25, .i32⟩ : BufTy).Contents (Elt F) → (⟨S8x1x25, .i32⟩ : BufTy).Contents (Elt F)),
    unary main_arg3 main_v2 (broadcastInDim S8x1x25 ![0, 2] bcast_S8x25_S8x1x25_0_2 : (⟨S8x25, .i32⟩ : BufTy).Contents (Elt F) → (⟨S8x1x25, .i32⟩ : BufTy).Contents (Elt F))]

/-- The operations between the region and the SparseCore call: the flattened, padded row numbers and boxes. -/
abbrev mid : List (HloOp τ sig (Elt F)) :=
  [nullary main_v4 (iotaInDim S8 32 0),
    unary main_v4 main_v5 (broadcastInDim S8x1 ![0] bcast_S8_S8x1_0 : (⟨S8, .i32⟩ : BufTy).Contents (Elt F) → (⟨S8x1, .i32⟩ : BufTy).Contents (Elt F)),
    nullary main_c (constantI S_ 32 900#32),
    unary main_c main_v6 (broadcastInDim S8x1 ![] bcast_S_S8x1 : (⟨S_, .i32⟩ : BufTy).Contents (Elt F) → (⟨S8x1, .i32⟩ : BufTy).Contents (Elt F)),
    binary main_v5 main_v6 main_v7 (muli : (⟨S8x1, .i32⟩ : BufTy).Contents (Elt F) → (⟨S8x1, .i32⟩ : BufTy).Contents (Elt F) → (⟨S8x1, .i32⟩ : BufTy).Contents (Elt F)),
    unary main_v7 main_v8 (broadcastInDim S8x25 ![0, 1] bcast_S8x1_S8x25_0_1 : (⟨S8x1, .i32⟩ : BufTy).Contents (Elt F) → (⟨S8x25, .i32⟩ : BufTy).Contents (Elt F)),
    binary main_v8 main_arg4 main_v9 (addi : (⟨S8x25, .i32⟩ : BufTy).Contents (Elt F) → (⟨S8x25, .i32⟩ : BufTy).Contents (Elt F) → (⟨S8x25, .i32⟩ : BufTy).Contents (Elt F)),
    StableHlo.reshape main_v9 main_v10 (rfl : (.i32 : EltTy) = .i32) shapeCasts_S8x25_S200,
    nullary main_c_0 (constantI S_ 32 0#32),
    unary main_c_0 main_call0_v0 (id : (⟨S_, .i32⟩ : BufTy).Contents (Elt F) → (⟨S_, .i32⟩ : BufTy).Contents (Elt F)),
    binary main_v10 main_call0_v0 main_v11 ((fun x v => pad S208 ![0] ![8] ![0] x v pads_S200_S208_080 h_S_) : (⟨S200, .i32⟩ : BufTy).Contents (Elt F) → (⟨S_, .i32⟩ : BufTy).Contents (Elt F) → (⟨S208, .i32⟩ : BufTy).Contents (Elt F)),
    StableHlo.reshape main_arg2 main_v12 (rfl : (.f32 : EltTy) = .f32) shapeCasts_S8x25x4_S800,
    nullary main_c_1 (constantI S_ 32 0#32),
    unary main_c_1 main_call1_v0 (sitofp .f32 : (⟨S_, .i32⟩ : BufTy).Contents (Elt F) → (⟨S_, .f32⟩ : BufTy).Contents (Elt F)),
    binary main_v12 main_call1_v0 main_v13 ((fun x v => pad S832 ![0] ![32] ![0] x v pads_S800_S832_0320 h_S_) : (⟨S800, .f32⟩ : BufTy).Contents (Elt F) → (⟨S_, .f32⟩ : BufTy).Contents (Elt F) → (⟨S832, .f32⟩ : BufTy).Contents (Elt F)),
    StableHlo.reshape main_arg1 main_v14 (rfl : (.f32 : EltTy) = .f32) shapeCasts_S8x900x4_S28800]

/-- Three one-element vectors end to end. -/
def three (a b c : (⟨S1, .f32⟩ : BufTy).Contents (Elt F)) : (⟨S3, .f32⟩ : BufTy).Contents (Elt F) :=
  concatenate S3 0 [⟨S1, a⟩, ⟨S1, b⟩, ⟨S1, c⟩] concatenates_S1_S1_S1_S3_d0

/-- The operations after the call: the three sums, divided by the number of boxes. -/
abbrev post : List (HloOp τ sig (Elt F)) :=
  [nullary main_cst (constant S_ .f32 0x00000000#32),
    binary main_v3 main_cst main_v16 ((fun x v => Host.reduceAdd x v reducesTo_S1x91_S_d0_1 h_S_) : (⟨S1x91, .f32⟩ : BufTy).Contents (Elt F) → (⟨S_, .f32⟩ : BufTy).Contents (Elt F) → (⟨S_, .f32⟩ : BufTy).Contents (Elt F)),
    nullary main_cst_2 (constant S_ .f32 0x43480000#32),
    binary main_v16 main_cst_2 main_v17 (Host.divf : (⟨S_, .f32⟩ : BufTy).Contents (Elt F) → (⟨S_, .f32⟩ : BufTy).Contents (Elt F) → (⟨S_, .f32⟩ : BufTy).Contents (Elt F)),
    unary main_v15 main_v18 ((extractStridedSlice S16 ![0] · slices_S32_S16_0) : (⟨S32, .f32⟩ : BufTy).Contents (Elt F) → (⟨S16, .f32⟩ : BufTy).Contents (Elt F)),
    nullary main_cst_3 (constant S_ .f32 0x00000000#32),
    binary main_v18 main_cst_3 main_v19 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_4 (constant S_ .f32 0x43480000#32),
    binary main_v19 main_cst_4 main_v20 (Host.divf : (⟨S_, .f32⟩ : BufTy).Contents (Elt F) → (⟨S_, .f32⟩ : BufTy).Contents (Elt F) → (⟨S_, .f32⟩ : BufTy).Contents (Elt F)),
    unary main_v15 main_v21 ((extractStridedSlice S16 ![16] · slices_S32_S16_16) : (⟨S32, .f32⟩ : BufTy).Contents (Elt F) → (⟨S16, .f32⟩ : BufTy).Contents (Elt F)),
    nullary main_cst_5 (constant S_ .f32 0x00000000#32),
    binary main_v21 main_cst_5 main_v22 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_6 (constant S_ .f32 0x43480000#32),
    binary main_v22 main_cst_6 main_v23 (Host.divf : (⟨S_, .f32⟩ : BufTy).Contents (Elt F) → (⟨S_, .f32⟩ : BufTy).Contents (Elt F) → (⟨S_, .f32⟩ : BufTy).Contents (Elt F)),
    unary main_v17 main_v24 (broadcastInDim S1 ![] bcast_S_S1 : (⟨S_, .f32⟩ : BufTy).Contents (Elt F) → (⟨S1, .f32⟩ : BufTy).Contents (Elt F)),
    unary main_v20 main_v25 (broadcastInDim S1 ![] bcast_S_S1 : (⟨S_, .f32⟩ : BufTy).Contents (Elt F) → (⟨S1, .f32⟩ : BufTy).Contents (Elt F)),
    unary main_v23 main_v26 (broadcastInDim S1 ![] bcast_S_S1 : (⟨S_, .f32⟩ : BufTy).Contents (Elt F) → (⟨S1, .f32⟩ : BufTy).Contents (Elt F)),
    nary ![main_v24, main_v25, main_v26] main_v27 (fun u => three (F := F) (u 0) (u 1) (u 2))]

/-- @main is the three lists around the region and the call. -/
theorem main_eq (d : Dev nD) : main (F := F) d
    = seq pre >>= fun _ => Prog.lift (.customCall (SparseCore.inner (Pipeline.entry 0)) ()) >>= fun _ => seq mid >>= fun _ => sc.run d 0 >>= fun _ => seq post >>= fun _ => pure ⟨⟩ := by
  rfl

/-! ## The buffers they touch -/

/-- The TensorCore's unscoped buffers. -/
def ucRefs : Finset (DevRef τ sig) := (tcRefs τ sig).filter fun b => ¬ b.isScoped

/-- A buffer of the whole program is one of `ucRefs`. -/
theorem mem_uc (r : Ref sig .tc) (h : r.isScoped = false) : Proc.devRef (τ := τ) .tc r ∈ ucRefs :=
  Finset.mem_filter.mpr ⟨devRef_mem_tcRefs r, by
    show ¬ r.isScoped = true
    rw [h]; decide⟩

/-- The launch's unscoped buffers at a valuation are those held at it. -/
theorem uc_held (c : Dev nD) (W : Valuation τ sig (Elt F)) :
    (unscopedBufs c (fun b => W b) : sProp (MT nD τ sig (HIx 1) (Elt F) ℕ UU ℕ)) = held (c : Thread nD τ) ucRefs W := by
  unfold unscopedBufs held ucRefs tcRefs
  rw [Finset.filter_map, bigSep_map]
  rfl

/-- The operations before the region use such buffers alone, -/
theorem pre_sub : ∀ op ∈ (pre : List (HloOp τ sig (Elt F))), op.bufs ⊆ ucRefs := by
  simp only [pre, List.forall_mem_cons, List.not_mem_nil, false_imp_iff, implies_true, and_true, unary_bufs, Finset.insert_subset_iff, Finset.singleton_subset_iff]
  refine ⟨⟨?_, ?_⟩, ⟨?_, ?_⟩, ?_, ?_⟩ <;> exact mem_uc _ rfl

/-- so do those between the calls, -/
theorem mid_sub : ∀ op ∈ (mid : List (HloOp τ sig (Elt F))), op.bufs ⊆ ucRefs := by
  simp only [mid, List.forall_mem_cons, List.not_mem_nil, false_imp_iff, implies_true, and_true, nullary_bufs, unary_bufs, binary_bufs, reshape_bufs, Finset.insert_subset_iff, Finset.singleton_subset_iff]
  refine ⟨?_, ⟨?_, ?_⟩, ?_, ⟨?_, ?_⟩, ⟨?_, ?_, ?_⟩, ⟨?_, ?_⟩, ⟨?_, ?_, ?_⟩, ⟨?_, ?_⟩, ?_, ⟨?_, ?_⟩, ⟨?_, ?_, ?_⟩, ⟨?_, ?_⟩, ?_, ⟨?_, ?_⟩, ⟨?_, ?_, ?_⟩, ?_, ?_⟩ <;> exact mem_uc _ rfl

/-- and those at the end. -/
theorem post_sub : ∀ op ∈ (post : List (HloOp τ sig (Elt F))), op.bufs ⊆ ucRefs := by
  simp only [post, List.forall_mem_cons, List.not_mem_nil, false_imp_iff, implies_true, and_true, nullary_bufs, unary_bufs, binary_bufs, Finset.insert_subset_iff, Finset.singleton_subset_iff]
  refine ⟨?_, ⟨?_, ?_, ?_⟩, ?_, ⟨?_, ?_, ?_⟩, ⟨?_, ?_⟩, ?_, ⟨?_, ?_, ?_⟩, ?_, ⟨?_, ?_, ?_⟩, ⟨?_, ?_⟩, ?_, ⟨?_, ?_, ?_⟩, ?_, ⟨?_, ?_, ?_⟩, ⟨?_, ?_⟩, ⟨?_, ?_⟩, ⟨?_, ?_⟩, ?_⟩
  all_goals first | exact mem_uc _ rfl | skip
  intro b hb
  rcases Finset.mem_insert.mp hb with rfl | hb
  · exact mem_uc _ rfl
  · obtain ⟨k, -, rfl⟩ := Finset.mem_image.mp hb
    fin_cases k <;> exact mem_uc _ rfl

/-- None before the region allocates, -/
theorem pre_fresh : ∀ op ∈ (pre : List (HloOp τ sig (Elt F))), op.fresh = ∅ := by
  simp only [pre, List.forall_mem_cons, List.not_mem_nil, false_imp_iff, implies_true, and_true]
  exact ⟨rfl, rfl, rfl⟩
/-- none between the calls, -/
theorem mid_fresh : ∀ op ∈ (mid : List (HloOp τ sig (Elt F))), op.fresh = ∅ := by
  simp only [mid, List.forall_mem_cons, List.not_mem_nil, false_imp_iff, implies_true, and_true]
  exact ⟨rfl, rfl, rfl, rfl, rfl, rfl, rfl, rfl, rfl, rfl, rfl, rfl, rfl, rfl, rfl, rfl⟩
/-- and none at the end. -/
theorem post_fresh : ∀ op ∈ (post : List (HloOp τ sig (Elt F))), op.fresh = ∅ := by
  simp only [post, List.forall_mem_cons, List.not_mem_nil, false_imp_iff, implies_true, and_true]
  exact ⟨rfl, rfl, rfl, rfl, rfl, rfl, rfl, rfl, rfl, rfl, rfl, rfl, rfl, rfl, rfl, rfl, rfl, rfl⟩

/-! ## What they leave -/

variable (m : (ℓ : Loc nD τ sig) → Buf (Elt F) ℓ)

/-- At the launch, -/
def V0 (d : Dev nD) : Valuation τ sig (Elt F) := fun b => m (d, b)
/-- entering the region, -/
def V1 (d : Dev nD) : Valuation τ sig (Elt F) := after pre (V0 m d)
/-- leaving it, -/
def V2 (d : Dev nD) : Valuation τ sig (Elt F) := Function.update (V1 m d) (Proc.devRef .tc main_v3) (ceOut (fun c b => V1 m c b) d)
/-- at the SparseCore call, -/
def V3 (d : Dev nD) : Valuation τ sig (Elt F) := after mid (V2 m d)
/-- after it, -/
def V4 (d : Dev nD) : Valuation τ sig (Elt F) := Function.update (V3 m d) (Proc.devRef .tc main_v15)
  (boxOut (V3 m d (Proc.devRef .tc main_v14)) (V3 m d (Proc.devRef .tc main_v13)) (V3 m d (Proc.devRef .tc main_v11)))
/-- and at the end. -/
def V5 (d : Dev nD) : Valuation τ sig (Elt F) := after post (V4 m d)

end Cert.Proof.Ideal

end
-- ==== Proof.Ideal.Box.lean ====
/-
  The working subcore's program: from its three arrays and its own storage it ends with `boxOut` written out.
-/
module

public import proofs.«01_k».proof.Proof.Ideal.Setup
public import proofs.«01_k».proof.Proof.Ideal.BoxVal

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid1.Coords)

/-- The SparseCore and the subcore of the call's point. -/
abbrev cV : Fin τ.nSC := (i 0).castLE hcore1
/-- The subcore that grid point `i` runs on. -/
abbrev jV : Fin τ.nSub := (i 1).castLE hsub1
/-- The subcore's thread. -/
abbrev tV : Thread nD τ := V d (cV i) (jV i)

/-! ## The arrays and the scratches, as the body names them -/

local notation "mS" => (Memref.whole Cert.KernelIdeal.main_v14_scv : Memref Cert.KernelIdeal.sig Kind.scVector Space.hbm Cert.KernelIdeal.S28800 EltTy.f32)
local notation "mT" => (Memref.whole Cert.KernelIdeal.main_v13_scv : Memref Cert.KernelIdeal.sig Kind.scVector Space.hbm Cert.KernelIdeal.S832 EltTy.f32)
local notation "mI" => (Memref.whole Cert.KernelIdeal.main_v11_scv : Memref Cert.KernelIdeal.sig Kind.scVector Space.hbm Cert.KernelIdeal.S208 EltTy.i32)
local notation "mO" => (Memref.whole Cert.KernelIdeal.main_v15_scv : Memref Cert.KernelIdeal.sig Kind.scVector Space.hbm Cert.KernelIdeal.S32 EltTy.f32)
local notation "aS" => (Memref.whole Cert.KernelIdeal.cc1_scratch0 : Memref Cert.KernelIdeal.sig Kind.scVector Space.vmem Cert.KernelIdeal.S28800 EltTy.f32)
local notation "aT" => (Memref.whole Cert.KernelIdeal.cc1_scratch1 : Memref Cert.KernelIdeal.sig Kind.scVector Space.vmem Cert.KernelIdeal.S832 EltTy.f32)
local notation "aI" => (Memref.whole Cert.KernelIdeal.cc1_scratch2 : Memref Cert.KernelIdeal.sig Kind.scVector Space.vmem Cert.KernelIdeal.S208 EltTy.i32)
local notation "aO" => (Memref.whole Cert.KernelIdeal.cc1_scratch3 : Memref Cert.KernelIdeal.sig Kind.scVector Space.vmem Cert.KernelIdeal.S32 EltTy.f32)

variable (sb : S28800.Idx → Elt F .f32) (tb : S832.Idx → Elt F .f32) (ix : S208.Idx → Elt F .i32)

/-- The subcore's copy of the predicted boxes, -/
abbrev ptS : sProp 𝕄 := (aS).view.loc (tV d i) ↦{fullShare} sb
/-- of the target boxes, -/
abbrev ptT : sProp 𝕄 := (aT).view.loc (tV d i) ↦{fullShare} tb
/-- and of the row numbers. -/
abbrev ptI : sProp 𝕄 := (aI).view.loc (tV d i) ↦{fullShare} ix

variable {α : Type}

/-- A gather from a whole one-dimensional buffer at positions in range reads `pick`. -/
theorem loadIdx_pick {e : EltTy} (n : ℕ) (hn : 0 < n) (b : Shape.Idx ⟨1, ![n]⟩ → Elt F e) (v : IVec S16 32)
    (h : ∀ a x, ((![v] : Fin 1 → IVec S16 32) a x).toNat < (⟨1, ![n]⟩ : Shape).size a) :
    loadIdx (s := ⟨1, ![n]⟩) (t := S16) b ![v] h = pick (F := F) n hn b v := by
  funext x
  show b (idxAt _ _ x) = b _
  congr 1
  exact at1_ext hn _ rfl

/-- A gather from the predicted boxes, its positions in range. -/
theorem wp_gatherS (h1 : k1_cond1 i = 1#1) (v : IVec S16 32) (hv : ∀ x, (v x).toNat < 28800)
    (k : Vec F S16 .f32 → Prog (TpuEff nD τ sig (Elt F) Λ₀ (tV d i).2) α) (Q : α → sProp 𝕄) :
    ptS d i sb ⊢ iprop((ptS d i sb -∗ wp frame (wpE (defs₀ (F := F)) 𝒱₀ (tV d i) none) Set.univ (k (pick 28800 (by decide) sb v)) Q)
      -∗ wp frame (wpE (defs₀ (F := F)) 𝒱₀ (tV d i) none) Set.univ (gatherS (F := F) i aS h1 v >>= k) Q) := by
  have hchk : k1_chk1 i v := by
    intro _ a x
    obtain rfl : a = 0 := Subsingleton.elim _ _
    exact hv x
  unfold gatherS
  simp only [Prog.lift, Prog.bind_op, Prog.bind_ret, Prog.pure_eq_ret, Prog.bind_assoc]
  rw [wp_assume_of _ _ _ _ hchk]
  rw [← loadIdx_pick (F := F) 28800 (by decide) sb v (k1_idx1_inb i v hchk h1)]
  iintro H Hk
  iapply (SparseCore.wp_vectorLoadIdx 𝒱₀ (tV d i) none Set.univ (base := aS) (S := Finset.univ) (q := fullShare) (Finset.subset_univ _)) $$ H
  iintro H
  rw [Memref.read_access_whole]
  iapply Hk; iexact H

/-- A gather from the target boxes, its positions in range. -/
theorem wp_gatherT (h1 : k1_cond1 i = 1#1) (v : IVec S16 32) (hv : ∀ x, (v x).toNat < 832)
    (k : Vec F S16 .f32 → Prog (TpuEff nD τ sig (Elt F) Λ₀ (tV d i).2) α) (Q : α → sProp 𝕄) :
    ptT d i tb ⊢ iprop((ptT d i tb -∗ wp frame (wpE (defs₀ (F := F)) 𝒱₀ (tV d i) none) Set.univ (k (pick 832 (by decide) tb v)) Q)
      -∗ wp frame (wpE (defs₀ (F := F)) 𝒱₀ (tV d i) none) Set.univ (gatherT (F := F) i aT h1 v >>= k) Q) := by
  have hchk : k1_chk5 i v := by
    intro _ a x
    obtain rfl : a = 0 := Subsingleton.elim _ _
    exact hv x
  unfold gatherT
  simp only [Prog.lift, Prog.bind_op, Prog.bind_ret, Prog.pure_eq_ret, Prog.bind_assoc]
  rw [wp_assume_of _ _ _ _ hchk]
  rw [← loadIdx_pick (F := F) 832 (by decide) tb v (k1_idx5_inb i v hchk h1)]
  iintro H Hk
  iapply (SparseCore.wp_vectorLoadIdx 𝒱₀ (tV d i) none Set.univ (base := aT) (S := Finset.univ) (q := fullShare) (Finset.subset_univ _)) $$ H
  iintro H
  rw [Memref.read_access_whole]
  iapply Hk; iexact H

/-- A round's load of sixteen row numbers reads `rowsOf`. -/
theorem readRows (n : ℕ) (hn : n < 13) :
    (aI).view.readAt (Elt F) (Rect.unit (s := S208) ![16 * n] S16.size (round_inb n hn)).toLoadRect ix = rowsOf (F := F) ix n := by
  funext x
  rw [View.readAt_apply]
  simp only [Memref.view_whole, View.read_whole]
  refine congrArg ix (at1_ext (by decide) _ ?_)
  rw [LoadRect.idx_apply]
  show 16 * n + 1 * (x 0).val = 16 * n + (x 0).val
  omega

/-- One round's reads. -/
theorem wp_round (h1 : k1_cond1 i = 1#1) (hix : RowsOK (F := F) ix) (n : ℕ) (hn : n < 13)
    (k : Eight F → Prog (TpuEff nD τ sig (Elt F) Λ₀ (tV d i).2) α) (Q : α → sProp 𝕄) :
    iprop(ptS d i sb ∗ ptT d i tb ∗ ptI d i ix)
      ⊢ iprop((iprop(ptS d i sb ∗ ptT d i tb ∗ ptI d i ix) -∗ wp frame (wpE (defs₀ (F := F)) 𝒱₀ (tV d i) none) Set.univ (k (eightAt sb tb ix n)) Q)
      -∗ wp frame (wpE (defs₀ (F := F)) 𝒱₀ (tV d i) none) Set.univ (round (F := F) i aS aT aI h1 (16 * n) (round_inb n hn) >>= k) Q) := by
  unfold round
  simp only [Prog.lift, Prog.bind_op, Prog.bind_ret, Prog.pure_eq_ret, Prog.bind_assoc]
  iintro ⟨HS, HT, HI⟩ Hk
  iapply (wp_load 𝒱₀ (tV d i) none Set.univ (m := aI) (S := Finset.univ) (Finset.subset_univ _)) $$ HI; iintro HI
  rw [readRows ix n hn]
  iapply (wp_gatherS d i sb h1 _ (posS_lt ix hix n 0#32 (by decide)) _ _) $$ HS; iintro HS
  iapply (wp_gatherS d i sb h1 _ (posS_lt ix hix n 1#32 (by decide)) _ _) $$ HS; iintro HS
  iapply (wp_gatherS d i sb h1 _ (posS_lt ix hix n 2#32 (by decide)) _ _) $$ HS; iintro HS
  iapply (wp_gatherS d i sb h1 _ (posS_lt ix hix n 3#32 (by decide)) _ _) $$ HS; iintro HS
  iapply (wp_gatherT d i tb h1 _ (posT_lt n hn 0#32 (by decide)) _ _) $$ HT; iintro HT
  iapply (wp_gatherT d i tb h1 _ (posT_lt n hn 1#32 (by decide)) _ _) $$ HT; iintro HT
  iapply (wp_gatherT d i tb h1 _ (posT_lt n hn 2#32 (by decide)) _ _) $$ HT; iintro HT
  iapply (wp_gatherT d i tb h1 _ (posT_lt n hn 3#32 (by decide)) _ _) $$ HT; iintro HT
  iapply Hk
  isplitl [HS]; · iexact HS
  isplitl [HT]; · iexact HT
  iexact HI

/-- The rounds, folded. -/
theorem wp_rounds (h1 : k1_cond1 i = 1#1) (hix : RowsOK (F := F) ix) (n : ℕ) (hn : n ≤ 12)
    (k : FVec F S16 .f32 × FVec F S16 .f32 → Prog (TpuEff nD τ sig (Elt F) Λ₀ (tV d i).2) α) (Q : α → sProp 𝕄) :
    iprop(ptS d i sb ∗ ptT d i tb ∗ ptI d i ix)
      ⊢ iprop((iprop(ptS d i sb ∗ ptT d i tb ∗ ptI d i ix) -∗ wp frame (wpE (defs₀ (F := F)) 𝒱₀ (tV d i) none) Set.univ (k (accOf sb tb ix n)) Q)
      -∗ wp frame (wpE (defs₀ (F := F)) 𝒱₀ (tV d i) none) Set.univ (rounds (F := F) i aS aT aI h1 n hn >>= k) Q) := by
  induction n generalizing k with
  | zero =>
    iintro H Hk
    unfold rounds
    simp only [Prog.pure_eq_ret, Prog.bind_ret]
    iapply Hk; iexact H
  | succ n ih =>
    iintro H Hk
    unfold rounds
    simp only [Prog.pure_eq_ret, Prog.bind_assoc, Prog.bind_ret]
    iapply (ih (Nat.le_of_succ_le hn) _) $$ H; iintro H
    iapply (wp_round d i sb tb ix h1 hix n (by omega) _) $$ H; iintro H
    iapply Hk; iexact H

/-! ## The subcore's own storage -/

/-- The four copies' semaphores. -/
abbrev cell (k : DmaSems sig S_) : GSem nD τ sig := (tV d i, .dma k.sem)

omit [FloatOps F] in
/-- The four copy counters, taken out of the subcore's own counters. -/
theorem ownSems0_V :
    (ownSems0 (tV d i) : sProp 𝕄)
      = iprop(semVal (cell d i cc1_scoped0) 0 ∗ semVal (cell d i cc1_scoped1) 0 ∗ semVal (cell d i cc1_scoped2) 0 ∗ semVal (cell d i cc1_scoped3) 0
          ∗ bigSep (((((ownCells (tV d i)).erase (cell d i cc1_scoped0)).erase (cell d i cc1_scoped1)).erase (cell d i cc1_scoped2)).erase (cell d i cc1_scoped3))
              fun g => semVal g 0) := by
  unfold SparseCore.Cfg.ownSems0
  have hne : ∀ a b : DmaSems sig S_, a.sem ≠ b.sem → cell d i a ≠ cell d i b := by
    intro a b h e
    have := congrArg Prod.snd e
    simp only [SemLoc.dma.injEq] at this
    exact h this
  have hm : ∀ a : DmaSems sig S_, (SemLoc.dma a.sem : SemLoc sig).isScoped .scVector = true → cell d i a ∈ ownCells (tV d i) :=
    fun a h => (mem_ownCells (g := cell d i a)).mpr ⟨rfl, h⟩
  rw [SparseCore.bigSep_erase' (hm cc1_scoped0 (by decide)),
    SparseCore.bigSep_erase' (Finset.mem_erase.mpr ⟨hne cc1_scoped1 cc1_scoped0 (by decide), hm cc1_scoped1 (by decide)⟩),
    SparseCore.bigSep_erase' (Finset.mem_erase.mpr ⟨hne cc1_scoped2 cc1_scoped1 (by decide), Finset.mem_erase.mpr
      ⟨hne cc1_scoped2 cc1_scoped0 (by decide), hm cc1_scoped2 (by decide)⟩⟩),
    SparseCore.bigSep_erase' (Finset.mem_erase.mpr ⟨hne cc1_scoped3 cc1_scoped2 (by decide), Finset.mem_erase.mpr
      ⟨hne cc1_scoped3 cc1_scoped1 (by decide), Finset.mem_erase.mpr ⟨hne cc1_scoped3 cc1_scoped0 (by decide), hm cc1_scoped3 (by decide)⟩⟩⟩)]

/-- A scratch of the subcore's. -/
abbrev scr (b : Ref sig .scVector) : DevRef τ sig := (Proc.scVector (cV i) (jV i)).devRef b

omit [FloatOps F] in
/-- The four scratch buffers, taken out of the subcore's own buffers. -/
theorem ownBufs_V :
    (ownBufs (tV d i) : sProp 𝕄)
      = iprop((∃ f, (tV d i).loc cc1_scratch0 ↦{fullShare} f) ∗ (∃ f, (tV d i).loc cc1_scratch1 ↦{fullShare} f)
          ∗ (∃ f, (tV d i).loc cc1_scratch2 ↦{fullShare} f) ∗ (∃ f, (tV d i).loc cc1_scratch3 ↦{fullShare} f)
          ∗ bigSep (((((ownRefs (τ := τ) (.scVector (cV i) (jV i))).erase (scr i cc1_scratch0)).erase (scr i cc1_scratch1)).erase (scr i cc1_scratch2)).erase (scr i cc1_scratch3))
              fun b => iprop(∃ f, ((d, b) : Loc nD τ sig) ↦{fullShare} f)) := by
  unfold SparseCore.Cfg.ownBufs
  have hne : ∀ a b : Ref sig .scVector, a ≠ b → scr i a ≠ scr i b := fun a b h e => h (Proc.devRef_injective _ e)
  have hm : ∀ b : Ref sig .scVector, (scr i b).owner = .proc (Proc.scVector (cV i) (jV i)) → scr i b ∈ ownRefs (τ := τ) (.scVector (cV i) (jV i)) :=
    fun b h => SparseCore.Cfg.mem_ownRefs_of_owner (p := Proc.scVector (cV i) (jV i)) (b := scr i b) h
  refine (SparseCore.bigSep_erase' (hm cc1_scratch0 rfl)).trans ?_
  rw [SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide), Finset.mem_erase.mpr
      ⟨hne cc1_scratch2 cc1_scratch0 (by decide), hm cc1_scratch2 rfl⟩⟩),
    SparseCore.bigSep_erase' (Finset.mem_erase.mpr ⟨hne cc1_scratch3 cc1_scratch2 (by decide), Finset.mem_erase.mpr
      ⟨hne cc1_scratch3 cc1_scratch1 (by decide), Finset.mem_erase.mpr ⟨hne cc1_scratch3 cc1_scratch0 (by decide), hm cc1_scratch3 rfl⟩⟩⟩)]

/-! ## The program -/

/-- The arrays the working subcore is handed: the predicted boxes, the target boxes, the row numbers and the result. -/
def boxGo (fo : S32.Idx → Elt F .f32) : sProp 𝕄 :=
  iprop(((SparseCore.T d).loc main_v14 ↦{fullShare} sb) ∗ ((SparseCore.T d).loc main_v13 ↦{fullShare} tb)
    ∗ ((SparseCore.T d).loc main_v11 ↦{fullShare} ix) ∗ ((SparseCore.T d).loc main_v15 ↦{fullShare} fo))

/-- The rounds, the last one masked: the two accumulators to store. -/
def middle (h1 : k1_cond1 i = 1#1) : Prog (TpuEff nD τ sig (Elt F) Λ₀ (tV d i).2) (FVec F S16 .f32 × FVec F S16 .f32) := do
  let a ← rounds (F := F) i aS aT aI h1 12 le_rfl
  let e ← round (F := F) i aS aT aI h1 (16 * 12) (round_inb 12 (by omega))
  pure (addf a.1 (select valid (l1Of e) (kc 0x00000000#32)), addf a.2 (select valid (lossOf e) (kc 0x00000000#32)))

/-- The thirteen rounds end with the two accumulators, the fetched arrays unchanged. -/
theorem wp_middle (h1 : k1_cond1 i = 1#1) (hix : RowsOK (F := F) ix)
    (k : FVec F S16 .f32 × FVec F S16 .f32 → Prog (TpuEff nD τ sig (Elt F) Λ₀ (tV d i).2) α) (Q : α → sProp 𝕄) :
    iprop(ptS d i sb ∗ ptT d i tb ∗ ptI d i ix)
      ⊢ iprop((iprop(ptS d i sb ∗ ptT d i tb ∗ ptI d i ix) -∗ wp frame (wpE (defs₀ (F := F)) 𝒱₀ (tV d i) none) Set.univ (k (l1Acc sb tb ix, lossAcc sb tb ix)) Q)
      -∗ wp frame (wpE (defs₀ (F := F)) 𝒱₀ (tV d i) none) Set.univ (middle d i h1 >>= k) Q) := by
  unfold middle
  simp only [Prog.pure_eq_ret, Prog.bind_assoc, Prog.bind_ret]
  iintro H Hk
  iapply (wp_rounds d i sb tb ix h1 hix 12 le_rfl _) $$ H; iintro H
  iapply (wp_round d i sb tb ix h1 hix 12 (by omega) _) $$ H; iintro H
  iapply Hk; iexact H

/-- The fetches before a computation `M` of the two accumulators, and the stores and the write-out after it. -/
def around (M : Prog (TpuEff nD τ sig (Elt F) Λ₀ (tV d i).2) (FVec F S16 .f32 × FVec F S16 .f32)) : Prog (TpuEff nD τ sig (Elt F) Λ₀ (tV d i).2) PUnit := do
  Prog.lift (.enqueueDma mS (.here aS) (.dma cc1_scoped0.sem) (Memref.isWhole_whole _).wordExact (Memref.isWhole_whole _).wordExact ⟨Or.inl rfl, trivial⟩)
  Prog.lift (.waitDma2 cc1_scoped0.sem mS aS (Memref.isWhole_whole _).wordExact (Memref.isWhole_whole _).wordExact)
  Prog.lift (.enqueueDma mT (.here aT) (.dma cc1_scoped1.sem) (Memref.isWhole_whole _).wordExact (Memref.isWhole_whole _).wordExact ⟨Or.inl rfl, trivial⟩)
  Prog.lift (.waitDma2 cc1_scoped1.sem mT aT (Memref.isWhole_whole _).wordExact (Memref.isWhole_whole _).wordExact)
  Prog.lift (.enqueueDma mI (.here aI) (.dma cc1_scoped2.sem) (Memref.isWhole_whole _).wordExact (Memref.isWhole_whole _).wordExact ⟨Or.inl rfl, trivial⟩)
  Prog.lift (.waitDma2 cc1_scoped2.sem mI aI (Memref.isWhole_whole _).wordExact (Memref.isWhole_whole _).wordExact)
  let a ← M
  let _x : Vec F S16 .f32 ← Prog.lift (.load aO (Rect.unit (s := S32) ![0] S16.size inb_S32_S16_0).toLoadRect (View.loadsAt_vmem h_S16))
  Prog.lift (.store aO (Rect.unit (s := S32) ![0] S16.size inb_S32_S16_0) a.1 Finset.univ (View.stores_vmem_bits_univ h_S16 rfl) (.inl rfl))
  let _y : Vec F S16 .f32 ← Prog.lift (.load aO (Rect.unit (s := S32) ![16] S16.size inb_S32_S16_16).toLoadRect (View.loadsAt_vmem h_S16))
  Prog.lift (.store aO (Rect.unit (s := S32) ![16] S16.size inb_S32_S16_16) a.2 Finset.univ (View.stores_vmem_bits_univ h_S16 rfl) (.inl rfl))
  Prog.lift (.enqueueDma aO (.here mO) (.dma cc1_scoped3.sem) (Memref.isWhole_whole _).wordExact (Memref.isWhole_whole _).wordExact ⟨Or.inl rfl, trivial⟩)
  Prog.lift (.waitDma2 cc1_scoped3.sem aO mO (Memref.isWhole_whole _).wordExact (Memref.isWhole_whole _).wordExact)
  pure ⟨⟩

/-- The working subcore's program is the fetches, the rounds and the stores in order. -/
theorem boxProg_eq (h1 : k1_cond1 i = 1#1) :
    boxProg (F := F) i mS (Memref.isWhole_whole _) mT (Memref.isWhole_whole _) mI (Memref.isWhole_whole _) mO (Memref.isWhole_whole _)
        aS (Memref.isWhole_whole _) aT (Memref.isWhole_whole _) aI (Memref.isWhole_whole _) aO (Memref.isWhole_whole _)
        cc1_scoped0 cc1_scoped1 cc1_scoped2 cc1_scoped3 h1
      = around d i (middle d i h1) := by
  unfold boxProg around middle
  simp only [Prog.lift, Prog.bind_op, Prog.bind_ret, Prog.pure_eq_ret, Prog.bind_assoc]
  rfl

omit [FloatOps F] in
/-- The scratch after the two stores: the first sixteen words one payload, the last sixteen the other. -/
theorem outRead (f : S32.Idx → Elt F .f32) (p q : S16.Idx → Elt F .f32) :
    View.read (Elt F) (aO).view ((aO).view.writes (Elt F) f
        [⟨Rect.unit (s := S32) ![16] S16.size inb_S32_S16_16, q⟩, ⟨Rect.unit (s := S32) ![0] S16.size inb_S32_S16_0, p⟩])
      = fun j => if (j 0).val < 16 then p (at1 16 (by decide) (j 0).val) else q (at1 16 (by decide) ((j 0).val - 16)) := by
  funext j
  have hj : (j 0).val < 32 := (j 0).isLt
  by_cases h : (j 0).val < 16
  · rw [if_pos h, View.read_writes_cons_miss_of_axis _ _ _ _ j 0 16 16 rfl rfl rfl (.inl h)]
    refine View.read_writes_cons_hit_of_coords (aO).view f (Rect.unit (s := S32) ![0] S16.size inb_S32_S16_0) p [] (at1 16 (by decide) (j 0).val) j fun a => ?_
    obtain rfl : a = 0 := Subsingleton.elim (α := Fin 1) _ _
    show (j 0).val = 0 + 1 * ((j 0).val % 16)
    omega
  · rw [if_neg h]
    refine View.read_writes_cons_hit_of_coords (aO).view f (Rect.unit (s := S32) ![16] S16.size inb_S32_S16_16) q _ (at1 16 (by decide) ((j 0).val - 16)) j fun a => ?_
    obtain rfl : a = 0 := Subsingleton.elim (α := Fin 1) _ _
    show (j 0).val = 16 + 1 * (((j 0).val - 16) % 16)
    omega

/-- From the four arrays and the subcore's own storage, the program ends with `boxOut` in the result. -/
theorem wp_around (M : Prog (TpuEff nD τ sig (Elt F) Λ₀ (tV d i).2) (FVec F S16 .f32 × FVec F S16 .f32))
    (hM : ∀ (k : FVec F S16 .f32 × FVec F S16 .f32 → Prog (TpuEff nD τ sig (Elt F) Λ₀ (tV d i).2) PUnit) (Q : PUnit → sProp 𝕄),
      iprop(ptS d i sb ∗ ptT d i tb ∗ ptI d i ix)
        ⊢ iprop((iprop(ptS d i sb ∗ ptT d i tb ∗ ptI d i ix) -∗ wp frame (wpE (defs₀ (F := F)) 𝒱₀ (tV d i) none) Set.univ (k (l1Acc sb tb ix, lossAcc sb tb ix)) Q)
        -∗ wp frame (wpE (defs₀ (F := F)) 𝒱₀ (tV d i) none) Set.univ (M >>= k) Q))
    (hF : (K (F := F)).Facts) (fo : S32.Idx → Elt F .f32)
    (O : CellTallies nD τ sig (HIx 1)) (W : Waits sig (HIx 1)) (hO : ∀ g, O g none = 0) :
    iprop(levAts (K (F := F)).L (K (F := F)).lev ∗ emp ∗ boxGo d sb tb ix fo
        ∗ scopedBufs (tV d i) ∗ scopedSems0 (tV d i) ∗ owes (tV d i) O W)
      ⊢ wp frame (wpE (defs₀ (F := F)) 𝒱₀ (tV d i) none) Set.univ (around d i M)
          fun _ => iprop(boxGo d sb tb ix (boxOut sb tb ix) ∗ scopedBufs (tV d i) ∗ scopedSems0 (tV d i)
            ∗ ∃ W', ⌜∀ p ∈ W', p ∈ W ∨ p.2 = none⌝ ∗ owes (tV d i) O W') := by
  rw [(K (F := F)).scopedBufs_V hF d (cV i) (jV i), SparseCore.Cfg.scopedSems0_V (Val := Elt F) d (cV i) (jV i), ownSems0_V, ownBufs_V]
  unfold boxGo around
  simp only [Prog.lift, Prog.bind_op, Prog.bind_ret, Prog.pure_eq_ret]
  iintro ⟨#Hlv, -, ⟨HS, HT, HI, Ho⟩, ⟨⟨%f0, H0⟩, ⟨%f1, H1⟩, ⟨%f2, H2⟩, ⟨%f3, H3⟩, Hbufs⟩, ⟨S0, S1, S2, S3, Hsems⟩, HO⟩
  ihave Hmw := ((K (F := F)).mayWaits_none (thr := tV d i) hO) $$ Hlv
  ihave HS := (Entails.of_eq (show ((SparseCore.T d).loc main_v14 ↦{fullShare} sb : sProp 𝕄) = ((mS).view.loc (tV d i) ↦{fullShare} sb) from rfl)) $$ HS
  ihave HT := (Entails.of_eq (show ((SparseCore.T d).loc main_v13 ↦{fullShare} tb : sProp 𝕄) = ((mT).view.loc (tV d i) ↦{fullShare} tb) from rfl)) $$ HT
  ihave HI := (Entails.of_eq (show ((SparseCore.T d).loc main_v11 ↦{fullShare} ix : sProp 𝕄) = ((mI).view.loc (tV d i) ↦{fullShare} ix) from rfl)) $$ HI
  ihave Ho := (Entails.of_eq (show ((SparseCore.T d).loc main_v15 ↦{fullShare} fo : sProp 𝕄) = ((mO).view.loc (tV d i) ↦{fullShare} fo) from rfl)) $$ Ho
  ihave H0 := (Entails.of_eq (show ((tV d i).loc cc1_scratch0 ↦{fullShare} f0 : sProp 𝕄) = ((aS).view.loc (tV d i) ↦{fullShare} f0) from rfl)) $$ H0
  ihave H1 := (Entails.of_eq (show ((tV d i).loc cc1_scratch1 ↦{fullShare} f1 : sProp 𝕄) = ((aT).view.loc (tV d i) ↦{fullShare} f1) from rfl)) $$ H1
  ihave H2 := (Entails.of_eq (show ((tV d i).loc cc1_scratch2 ↦{fullShare} f2 : sProp 𝕄) = ((aI).view.loc (tV d i) ↦{fullShare} f2) from rfl)) $$ H2
  ihave H3 := (Entails.of_eq (show ((tV d i).loc cc1_scratch3 ↦{fullShare} f3 : sProp 𝕄) = ((aO).view.loc (tV d i) ↦{fullShare} f3) from rfl)) $$ H3
  sl_exec
  ihave H0 := (Entails.of_eq (congrArg (fun f => ((aS).view.loc (tV d i) ↦{fullShare} f : sProp 𝕄)) (show _ = sb from View.write_whole_univ _ _ _))) $$ H0
  ihave H1 := (Entails.of_eq (congrArg (fun f => ((aT).view.loc (tV d i) ↦{fullShare} f : sProp 𝕄)) (show _ = tb from View.write_whole_univ _ _ _))) $$ H1
  ihave H2 := (Entails.of_eq (congrArg (fun f => ((aI).view.loc (tV d i) ↦{fullShare} f : sProp 𝕄)) (show _ = ix from View.write_whole_univ _ _ _))) $$ H2
  iapply (hM _ _) $$ [H0 H1 H2]
  · isplitl [H0]; · iexact H0
    isplitl [H1]; · iexact H1
    iexact H2
  iintro ⟨H0, H1, H2⟩
  sl_exec
  sl_step
  have hval : (mO).view.write (Elt F) fo (wp_around.sl.dma4 d i sb tb ix f3) Finset.univ = boxOut sb tb ix := by
    refine (View.write_whole_univ _ _ _).trans ?_
    unfold wp_around.sl.dma4 wp_around.sl.H3_2
    exact outRead f3 _ _
  isplitl [HS HT HI Ho]
  · isplitl [HS]; · iexact HS
    isplitl [HT]; · iexact HT
    isplitl [HI]; · iexact HI
    rw [hval]; iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [S0 S1 S2 S3 Hsems]
  · isplitl [S0]; · iexact S0
    isplitl [S1]; · iexact S1
    isplitl [S2]; · iexact S2
    isplitl [S3]; · iexact S3
    iexact Hsems
  iexists _; isplitr
  rotate_left
  · iexact HO
  ipureintro
  intro p hp
  simp only [Finset.mem_insert] at hp
  rcases hp with rfl | rfl | rfl | rfl | hp
  · exact .inr rfl
  · exact .inr rfl
  · exact .inr rfl
  · exact .inr rfl
  · exact .inl hp

end Cert.Proof.Ideal

end
-- ==== Proof.Ideal.BoxEq.lean ====
/-
  The kernel's body on the working subcore is the program `boxProg`; on every other subcore it does nothing.
-/
module

public import proofs.«01_k».proof.Proof.Ideal.BoxProg

@[expose] public section

noncomputable section

namespace Cert.Proof.Ideal

open Cert.KernelIdeal Cert.KernelIdeal.Gen
open Idealize.ShloMosaic Idealize.SL.Sem

variable {F : FTy → Type} [FloatOps F]

variable (i : grid1.Coords) (arg2 : Memref sig .scVector .hbm S28800 .f32) (harg2 : arg2.IsWhole) (arg3 : Memref sig .scVector .hbm S832 .f32) (harg3 : arg3.IsWhole)
  (arg4 : Memref sig .scVector .hbm S208 .i32) (harg4 : arg4.IsWhole) (arg5 : Memref sig .scVector .hbm S32 .f32) (harg5 : arg5.IsWhole)
  (arg6 : Memref sig .scVector .vmem S28800 .f32) (harg6 : arg6.IsWhole) (arg7 : Memref sig .scVector .vmem S832 .f32) (harg7 : arg7.IsWhole)
  (arg8 : Memref sig .scVector .vmem S208 .i32) (harg8 : arg8.IsWhole) (arg9 : Memref sig .scVector .vmem S32 .f32) (harg9 : arg9.IsWhole)
  (r0 r1 r2 r3 : DmaSems sig S_) (h1 : k1_cond1 i = 1#1)

set_option maxRecDepth 65536 in
set_option maxHeartbeats 0 in
/-- On the working subcore the printed body is the program above. -/
theorem then_eq :
    cc1__box_body (F := F) i arg2 harg2 arg3 harg3 arg4 harg4 arg5 harg5 arg6 harg6 arg7 harg7 arg8 harg8 arg9 harg9 r0 r1 r2 r3
      = boxProg (F := F) i arg2 harg2 arg3 harg3 arg4 harg4 arg5 harg5 arg6 harg6 arg7 harg7 arg8 harg8 arg9 harg9 r0 r1 r2 r3 h1 := by
  unfold cc1__box_body
  rw [dif_pos h1]
  rfl

/-- On every other subcore the body does nothing. -/
theorem else_eq (h : ¬ k1_cond1 i = 1#1) :
    cc1__box_body (F := F) i arg2 harg2 arg3 harg3 arg4 harg4 arg5 harg5 arg6 harg6 arg7 harg7 arg8 harg8 arg9 harg9 r0 r1 r2 r3 = pure ⟨⟩ := by
  unfold cc1__box_body
  rw [dif_neg h]

end Cert.Proof.Ideal

end
-- ==== Proof.Ideal.BoxCall.lean ====
/-
  The SparseCore call: what it hands the threads and takes back, and its two obligations — every subcore's task, and how
  the call's operands reach the one subcore that works.
-/
module

public import proofs.«01_k».proof.Proof.Ideal.Box
public import proofs.«01_k».proof.Proof.Ideal.BoxEq

@[expose] public section

noncomputable section

namespace Cert.Proof.Ideal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three arrays the call reads and what its result holds before it, on every device. -/
structure BoxIn (F : FTy → Type) where
  sb : Dev nD → S28800.Idx → Elt F .f32
  tb : Dev nD → S832.Idx → Elt F .f32
  ix : Dev nD → S208.Idx → Elt F .i32
  old : Dev nD → S32.Idx → Elt F .f32

variable (A : BoxIn F)

attribute [local irreducible] middle around rounds

/-- What the call leaves in its result on device `d`. -/
abbrev BoxIn.out (d : Dev nD) : S32.Idx → Elt F .f32 := boxOut (A.sb d) (A.tb d) (A.ix d)

/-- The four arrays for the one working SparseCore and subcore (`b`), nothing for the others. -/
def forOne (d : Dev nD) (fo : S32.Idx → Elt F .f32) (b : Prop) [Decidable b] : sProp 𝕄 :=
  if b then boxGo d (A.sb d) (A.tb d) (A.ix d) fo else iprop(emp)

/-- What the working subcore is handed can be kept by the launch. -/
instance boxGo_storable (d : Dev nD) (sb : S28800.Idx → Elt F .f32) (tb : S832.Idx → Elt F .f32) (ix : S208.Idx → Elt F .i32) (fo : S32.Idx → Elt F .f32) :
    BI.Storable (upEmb : UEmb _ 𝕄) (boxGo d sb tb ix fo) := by
  unfold boxGo; infer_instance

/-- So can what is handed to one subcore alone. -/
instance forOne_storable (d : Dev nD) (fo : S32.Idx → Elt F .f32) (b : Prop) [Decidable b] : BI.Storable (upEmb : UEmb _ 𝕄) (forOne A d fo b) := by
  unfold forOne; split <;> infer_instance

/-- The call's payloads: the four arrays to SparseCore 0's sequencer, on to its subcore 0, and back with the result. -/
def P : (K (F := F)).Pay (nD := nD) (Val := Elt F) (Name := ℕ) (U := UU) where
  st := fun _ d c => forOne A d (A.old d) (c.val = 0)
  dn := fun _ d c => forOne A d (A.out d) (c.val = 0)
  go := fun _ d c i => forOne A d (A.old d) (c.val = 0 ∧ i.val = 0)
  td := fun _ d c i => forOne A d (A.out d) (c.val = 0 ∧ i.val = 0)
  x := fun _ _ => iprop(emp)

/-- So can the call's whole protocol. -/
instance P_storable : (P (F := F) A).IsStorable where
  st _ d c := by unfold P; infer_instance
  dn _ d c := by unfold P; infer_instance
  go _ _ _ _ := by unfold P; infer_instance
  td _ _ _ _ := by unfold P; infer_instance

/-- The call's point of SparseCore `c` and subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- Only the first subcore of the first SparseCore works. -/
theorem works_iff : ∀ (c : Fin (grid1.bound 0)) (s : Fin (grid1.bound 1)), k1_cond1 (coordsV c s) = 1#1 ↔ c.val = 0 ∧ s.val = 0 := by
  decide

/-- What a vector subcore runs in the call. -/
theorem defs₀_vector (c : Fin τ.nSC) (s : Fin τ.nSub) :
    defs₀ (F := F) (.scVector c s) 1 ()
      = SparseCore.onTile hcore1 hsub1 (fun c s => cc1__box_body (coordsV c s)
          (Memref.whole main_v14_scv) (Memref.isWhole_whole _) (Memref.whole main_v13_scv) (Memref.isWhole_whole _)
          (Memref.whole main_v11_scv) (Memref.isWhole_whole _) (Memref.whole main_v15_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scoped0 cc1_scoped1 cc1_scoped2 cc1_scoped3) ⟨⟩ c s := rfl

omit [FloatOps F] in
/-- A task that records waits of no index only records waits of no index or of the call. -/
theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

/-- The working subcore's task. -/
theorem working (d : Dev nD) (i : grid1.Coords) (h1 : k1_cond1 i = 1#1) (hF : (K (F := F)).Facts)
    (sb : S28800.Idx → Elt F .f32) (tb : S832.Idx → Elt F .f32) (ix : S208.Idx → Elt F .i32) (hix : RowsOK (F := F) ix) (fo : S32.Idx → Elt F .f32)
    (O : CellTallies nD τ sig (HIx 1)) (W : Waits sig (HIx 1)) (hO : ∀ g, O g none = 0) :
    iprop(levAts (K (F := F)).L (K (F := F)).lev ∗ emp ∗ boxGo d sb tb ix fo
        ∗ scopedBufs (tV d i) ∗ scopedSems0 (tV d i) ∗ owes (tV d i) O W)
      ⊢ wp frame (wpE (defs₀ (F := F)) 𝒱₀ (tV d i) none) Set.univ (around d i (middle d i h1))
          fun _ => iprop(boxGo d sb tb ix (boxOut sb tb ix) ∗ scopedBufs (tV d i) ∗ scopedSems0 (tV d i)
            ∗ ∃ W', ⌜∀ p ∈ W', p ∈ W ∨ p.2 = none⌝ ∗ owes (tV d i) O W') :=
  wp_around d i sb tb ix (middle d i h1) (wp_middle d i sb tb ix h1 hix) hF fo O W hO

/-- The task of any subcore: the working one runs the program, the others do nothing. -/
theorem tile_body (d : Dev nD) (c : Fin (grid1.bound 0)) (s : Fin (grid1.bound 1)) (hF : (K (F := F)).Facts) (hix : RowsOK (F := F) (A.ix d))
    (O : CellTallies nD τ sig (HIx 1)) (W : Waits sig (HIx 1)) (hO : ∀ g, O g none = 0) :
    iprop(levAts (K (F := F)).L (K (F := F)).lev ∗ emp ∗ forOne A d (A.old d) (c.val = 0 ∧ s.val = 0)
        ∗ scopedBufs (tV d (coordsV c s)) ∗ scopedSems0 (tV d (coordsV c s)) ∗ owes (tV d (coordsV c s)) O W)
      ⊢ wp frame (wpE (defs₀ (F := F)) 𝒱₀ (tV d (coordsV c s)) none) Set.univ
          (cc1__box_body (coordsV c s)
            (Memref.whole main_v14_scv) (Memref.isWhole_whole _) (Memref.whole main_v13_scv) (Memref.isWhole_whole _)
            (Memref.whole main_v11_scv) (Memref.isWhole_whole _) (Memref.whole main_v15_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scoped0 cc1_scoped1 cc1_scoped2 cc1_scoped3)
          fun _ => iprop(forOne A d (A.out d) (c.val = 0 ∧ s.val = 0) ∗ scopedBufs (tV d (coordsV c s)) ∗ scopedSems0 (tV d (coordsV c s))
            ∗ ∃ W', ⌜∀ p ∈ W', p ∈ W ∨ p.2 = none⌝ ∗ owes (tV d (coordsV c s)) O W') := by
  by_cases h : k1_cond1 (coordsV c s) = 1#1
  · have hcs := (works_iff c s).mp h
    rw [then_eq (h1 := h), boxProg_eq d]
    simp only [forOne, if_pos hcs]
    exact working d (coordsV c s) h hF (A.sb d) (A.tb d) (A.ix d) hix (A.old d) O W hO
  · have hcs := fun hc => h ((works_iff c s).mpr hc)
    rw [else_eq (h := h)]
    simp only [forOne, if_neg hcs, Prog.pure_eq_ret]
    iintro ⟨-, -, -, Hb, Hs, HO⟩
    rw [wp_ret]; imodintro
    isplitr; · iempintro
    isplitl [Hb]; · iexact Hb
    isplitl [Hs]; · iexact Hs
    iexists W; isplitr
    · ipureintro; exact fun p hp => .inl hp
    · iexact HO

/-- Every subcore's task, as the launch theorem asks for it. -/
theorem tileObl (hF : (K (F := F)).Facts) (hix : ∀ d, RowsOK (F := F) (A.ix d)) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body A d ⟨_, hc.1⟩ ⟨_, hc.2⟩ hF (hix d) O W hO).trans (wp_mono frame _ _ fun _ => obl_post)

omit [FloatOps F] in
/-- A separating conjunction in which only one place holds anything is that one. -/
theorem bigSep_one {n : ℕ} (i₀ : Fin n) (X : sProp 𝕄) (p : Fin n → Prop) [DecidablePred p] (h : ∀ i, p i ↔ i = i₀) :
    (bigSep Finset.univ fun i : Fin n => if p i then X else iprop(emp)) = X := by
  rw [SparseCore.bigSep_erase' (Finset.mem_univ i₀), if_pos ((h i₀).mpr rfl),
    Idealize.SL.BI.bigSep_congr (Ψ := fun _ => (iprop(emp) : sProp 𝕄)) fun i hi => if_neg fun hp => (Finset.ne_of_mem_erase hi) ((h i).mp hp)]
  exact (congrArg (fun Y : sProp 𝕄 => iprop(X ∗ Y)) (bigSep_emp_const _)).trans (Idealize.SL.BI.equiv_iff.mp Idealize.SL.BI.sep_emp)

/-- The operands reach subcore 0 of SparseCore 0, and its results are the call's. -/
theorem vecSplit : (K (F := F)).VecSplit' (P A) 0 := by
  intro d c
  show forOne A d (A.old d) (c.val = 0) ⊢ |={Set.univ}=> iprop(
      (bigSep Finset.univ fun i : Fin ((K (F := F)).nSub 0) => forOne A d (A.old d) (c.val = 0 ∧ i.val = 0))
      ∗ ((bigSep Finset.univ fun i : Fin ((K (F := F)).nSub 0) => forOne A d (A.out d) (c.val = 0 ∧ i.val = 0)) -∗ forOne A d (A.out d) (c.val = 0)))
  have hall : ∀ fo, (bigSep Finset.univ fun i : Fin ((K (F := F)).nSub 0) => forOne A d fo (c.val = 0 ∧ i.val = 0)) = forOne A d fo (c.val = 0) := by
    intro fo
    unfold forOne
    by_cases hc : c.val = 0
    · simp only [hc, true_and, if_true]
      exact bigSep_one (F := F) (n := 16) 0 _ (fun i => i.val = 0) fun i => ⟨fun h => Fin.ext h, fun h => h ▸ rfl⟩
    · simp only [hc, false_and, if_false]
      exact bigSep_emp_const _
  rw [hall, hall]
  iintro H; imodintro
  isplitl [H]; · iexact H
  iintro H; iexact H

end Cert.Proof.Ideal

end
-- ==== Proof.Ideal.Run.lean ====
/-
  The launch: @main on the TensorCore runs the host operations, the cross-entropy region and the SparseCore call, and every
  unscoped buffer ends at the last stage's contents.
-/
module

public import proofs.«01_k».proof.Proof.Ideal.Host
public import proofs.«01_k».proof.Proof.Ideal.BoxCall

@[expose] public section

noncomputable section

namespace Cert.Proof.Ideal

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Rounds

variable {F : FTy → Type} [FloatOps F]

local notation "𝕄" => MT nD τ sig (HIx 1) (Elt F) ℕ UU ℕ

attribute [local irreducible] middle around rounds

variable (m : (ℓ : Loc nD τ sig) → Buf (Elt F) ℓ) (ρ : Dev nD → PrngReg)

/-! ## The region's step -/

/-- What the region's pipeline is given at the launch. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

/-- After the region its result holds the column sums, -/
theorem V2_out (d : Dev nD) : V2 m d (Proc.devRef .tc main_v3) = ceOut (fun c b => V1 m c b) d := Function.update_self ..
/-- and every other buffer what it held. -/
theorem V2_ne (d : Dev nD) (b : Ref sig .tc) (h : b ≠ main_v3) : V2 m d (Proc.devRef .tc b) = V1 m d (Proc.devRef .tc b) :=
  Function.update_of_ne (devRef_ne_of_ne h) ..

/-- The region from stage 1 to stage 2. -/
def reg := ceReg (fun c b => V1 m c b) (fun c b => V2 m c b) (V2_out m) (V2_ne m)

/-- The region alone. -/
theorem wp_reg [∀ e, Nonempty (Elt F e)] (d : Dev nD) (Q : PUnit → sProp 𝕄) :
    iprop(((boundary (d.tc : Thread nD τ) ∗ (reg m).post d) -∗ wp frame (wpE (D (F := F)) 𝒱 (d.tc : Thread nD τ) none) Set.univ (.ret ⟨⟩) Q) ∗ boundary (d.tc : Thread nD τ) ∗ (reg m).pre d
        ∗ levAts (K (F := F)).L (K (F := F)).lev ∗ ghost d)
      ⊢ wp frame (wpE (D (F := F)) 𝒱 (d.tc : Thread nD τ) none) Set.univ (.op (.customCall (Pipeline.entry 0) ()) .ret : Prog (TpuEff nD τ sig (Elt F) (ΛP (F := F)) .tc) PUnit) Q :=
  Pipeline.RegionSeg.wp (pcfgs (F := F)) adm (ceDats fun c b => V1 m c b) none cellOf_inj EP defs₀ 𝒱₀ (K (F := F)).L (K (F := F)).lev
    (reg m) d none (fun _ h => nomatch h) .ret Q

/-- What the region starts from, -/
theorem reg_pre (d : Dev nD) : (reg m).pre d = iprop(held (d.tc : Thread nD τ) ucRefs (V1 m d) ∗ owing d) := by
  rw [← uc_held]; rfl
/-- and what it ends with. -/
theorem reg_post (d : Dev nD) : (reg m).post d = iprop(held (d.tc : Thread nD τ) ucRefs (V2 m d) ∗ owing d) := by
  rw [← uc_held]; rfl

/-- The region takes the buffers from stage 1 to stage 2. -/
theorem wp_ce [∀ e, Nonempty (Elt F e)] (d : Dev nD) (k : PUnit → Prog (TpuEff nD τ sig (Elt F) (SparseCore.Sig (ΛP (F := F)) 1) .tc) PUnit) (Q : PUnit → sProp 𝕄) :
    iprop(boundary (d.tc : Thread nD τ) ∗ held (d.tc : Thread nD τ) ucRefs (V1 m d) ∗ owing d ∗ levAts (K (F := F)).L (K (F := F)).lev ∗ ghost d
        ∗ ((boundary (d.tc : Thread nD τ) ∗ held (d.tc : Thread nD τ) ucRefs (V2 m d) ∗ owing d)
            -∗ wp frame (wpE ((K (F := F)).defs (D (F := F))) 𝒱 (d.tc : Thread nD τ) none) Set.univ (k ⟨⟩) Q))
      ⊢ wp frame (wpE ((K (F := F)).defs (D (F := F))) 𝒱 (d.tc : Thread nD τ) none) Set.univ
          (Prog.lift (.customCall (SparseCore.inner (Pipeline.entry 0)) ()) >>= k) Q := by
  rw [wp_bind]
  have h2 := fun Φ : PUnit → sProp 𝕄 => (K (F := F)).wp_liftProg (D (F := F)) 𝒱 (d.tc : Thread nD τ) Set.univ none
    (.op (.customCall (Pipeline.entry 0) ()) .ret : Prog (TpuEff nD τ sig (Elt F) (ΛP (F := F)) .tc) PUnit) Φ
  iintro ⟨Hb, Hh, HO, Hl, ⟨Hg, Ht⟩, Hk⟩
  iapply (h2 _)
  iapply (wp_reg m d _)
  rw [reg_pre, reg_post]
  isplitl [Hk]
  · iintro ⟨Hb, Hh, HO⟩
    rw [wp_ret]
    imodintro
    iapply Hk
    isplitl [Hb]; · iexact Hb
    isplitl [Hh] <;> iassumption
  isplitl [Hb]; · iexact Hb
  isplitl [Hh HO]; · isplitl [Hh] <;> iassumption
  isplitl [Hl]; · iexact Hl
  isplitl [Hg] <;> iassumption

/-! ## The call's step -/

/-- The call's arrays at stage 3. -/
def boxIn : BoxIn F where
  sb d := V3 m d (Proc.devRef .tc main_v14)
  tb d := V3 m d (Proc.devRef .tc main_v13)
  ix d := V3 m d (Proc.devRef .tc main_v11)
  old d := V3 m d (Proc.devRef .tc main_v15)

/-- The call's buffers. -/
def boxRefs : Finset (DevRef τ sig) :=
  {Proc.devRef .tc main_v14, Proc.devRef .tc main_v13, Proc.devRef .tc main_v11, Proc.devRef .tc main_v15}

/-- The call's buffers are buffers of the whole program. -/
theorem boxRefs_sub : boxRefs ⊆ ucRefs := by
  unfold boxRefs
  simp only [Finset.insert_subset_iff, Finset.singleton_subset_iff]
  refine ⟨?_, ?_, ?_, ?_⟩ <;> exact mem_uc _ rfl

/-- The call's buffers, taken out of all of them. -/
theorem held_box (d : Dev nD) (W : Valuation τ sig (Elt F)) :
    (held (d.tc : Thread nD τ) boxRefs W : sProp 𝕄)
      = boxGo d (W (Proc.devRef .tc main_v14)) (W (Proc.devRef .tc main_v13)) (W (Proc.devRef .tc main_v11)) (W (Proc.devRef .tc main_v15)) := by
  unfold held boxRefs boxGo
  rw [SparseCore.bigSep_insert' (by decide), SparseCore.bigSep_insert' (by decide), SparseCore.bigSep_insert' (by decide), Idealize.SL.BI.bigSep_singleton]

/-- After the call its result holds the 32 words, -/
theorem V4_out (d : Dev nD) : V4 m d (Proc.devRef .tc main_v15) = (boxIn m).out d := Function.update_self ..
/-- and every other buffer what it held. -/
theorem V4_ne (d : Dev nD) (b : DevRef τ sig) (h : b ≠ Proc.devRef .tc main_v15) : V4 m d b = V3 m d b :=
  Function.update_of_ne h ..

/-- The buffers at stage 3 are the call's operands and the rest, -/
theorem held_before (d : Dev nD) : (held (d.tc : Thread nD τ) ucRefs (V3 m d) : sProp 𝕄)
    = iprop(boxGo d ((boxIn m).sb d) ((boxIn m).tb d) ((boxIn m).ix d) ((boxIn m).old d) ∗ held (d.tc : Thread nD τ) (ucRefs \ boxRefs) (V3 m d)) := by
  rw [held_sub_split _ boxRefs_sub, held_box]; rfl

/-- and at stage 4 the call's results and the same rest. -/
theorem held_after (d : Dev nD) : (held (d.tc : Thread nD τ) ucRefs (V4 m d) : sProp 𝕄)
    = iprop(boxGo d ((boxIn m).sb d) ((boxIn m).tb d) ((boxIn m).ix d) ((boxIn m).out d) ∗ held (d.tc : Thread nD τ) (ucRefs \ boxRefs) (V3 m d)) := by
  rw [held_sub_split _ boxRefs_sub, held_box, V4_out, V4_ne m d _ (by decide), V4_ne m d _ (by decide), V4_ne m d _ (by decide)]
  refine congrArg₂ (fun X Y : sProp 𝕄 => iprop(X ∗ Y)) rfl (held_congr _ fun b hb => V4_ne m d b ?_)
  rintro rfl
  exact (Finset.mem_sdiff.mp hb).2 (by decide)

/-- What the call's cores start from, together, -/
theorem st_eq (A : BoxIn F) (d : Dev nD) : (bigSep Finset.univ fun c : Fin ((K (F := F)).nCore 0) => (P A).st 0 d c) = (boxGo d (A.sb d) (A.tb d) (A.ix d) (A.old d) : sProp 𝕄) :=
  bigSep_one (F := F) (n := 2) 0 _ (fun i => i.val = 0) fun i => ⟨fun h => Fin.ext h, fun h => h ▸ rfl⟩
/-- and what they end with. -/
theorem dn_eq (A : BoxIn F) (d : Dev nD) : (bigSep Finset.univ fun c : Fin ((K (F := F)).nCore 0) => (P A).dn 0 d c) = (boxGo d (A.sb d) (A.tb d) (A.ix d) (A.out d) : sProp 𝕄) :=
  bigSep_one (F := F) (n := 2) 0 _ (fun i => i.val = 0) fun i => ⟨fun h => Fin.ext h, fun h => h ▸ rfl⟩

/-! ## @main -/

/-- What @main ends with: every unscoped buffer at the last stage. -/
abbrev FIN (d : Dev nD) : sProp 𝕄 := held (d.tc : Thread nD τ) ucRefs (V5 m d)

/-- The whole of @main on a TensorCore, from the launch to the results. -/
theorem hmain [∀ e, Nonempty (Elt F e)] (κ : GSem nD τ sig → ℕ) (d : Dev nD) :
    iprop((K (F := F)).ctx EH (P (boxIn m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) ucRefs (V0 m d) from uc_held d (V0 m d), main_eq]
  iintro ⟨#Hctx, Hst, ⟨Hb, Hh, Hts, -⟩, HG⟩
  ihave #Hlev := (SparseCore.Cfg.ctx_levAts κ) $$ Hctx
  iapply (wp_seq 𝒱 none Set.univ d ucRefs _ pre pre_sub pre_fresh (V0 m d)) $$ [Hb Hh]
  · isplitl [Hb] <;> iassumption
  iintro ⟨Hb, Hh⟩
  ihave Hst' := (show (K (F := F)).tcSt EH d 0 ⊢ iprop(owing d ∗ (owing d -∗ (K (F := F)).tcSt EH d 0)) from by
    unfold SparseCore.Cfg.tcSt
    iintro ⟨HO, Hr⟩
    isplitl [HO]; · iexact HO
    iintro HO
    isplitl [HO] <;> iassumption) $$ Hst
  icases Hst' with ⟨HO, Hback⟩
  iapply (wp_ce m d)
  isplitl [Hb]; · iexact Hb
  isplitl [Hh]; · iexact Hh
  isplitl [HO]; · iexact HO
  isplitr; · iexact Hlev
  isplitl [HG]; · iexact HG
  iintro ⟨Hb, Hh, HO⟩
  ihave Hst := Hback $$ HO
  iapply (wp_seq 𝒱 none Set.univ d ucRefs _ mid mid_sub mid_fresh (V2 m d)) $$ [Hb Hh]
  · isplitl [Hb] <;> iassumption
  iintro ⟨Hb, Hh⟩
  ihave Hh' := (Entails.of_eq (show (held (d.tc : Thread nD τ) ucRefs (after mid (V2 m d)) : sProp 𝕄) = _ from held_before m d)) $$ Hh
  icases Hh' with ⟨Hbox, Hrest⟩
  rw [wp_bind]
  iapply ((K (F := F)).wp_run (D (F := F)) 𝒱 (EH := EH) (P := P (boxIn m)) κ d 0)
  isplitr; · iexact Hctx
  isplitl [Hst]; · iexact Hst
  isplitl [Hbox]; · rw [st_eq]; iexact Hbox
  iintro ⟨Hst, Hdn⟩
  ihave Hdn' := (Entails.of_eq (dn_eq (boxIn m) d)) $$ Hdn
  ihave Hh := (Entails.of_eq (held_after m d).symm) $$ [Hdn' Hrest]
  · isplitl [Hdn'] <;> iassumption
  iapply (wp_seq 𝒱 none Set.univ d ucRefs _ post post_sub post_fresh (V4 m d)) $$ [Hb Hh]
  · isplitl [Hb] <;> iassumption
  iintro ⟨Hb, Hh⟩
  rw [Prog.pure_eq_ret, wp_ret]; imodintro
  isplitl [Hst]; · iexact Hst
  isplitl [Hh]; · iexact Hh
  isplitl [Hb] <;> iassumption

/-! ## The launch -/

/-- The launch element: the handshakes' rounds, the pipeline's, no counter. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- A proposition entails itself. -/
theorem entails_self (X : sProp 𝕄) : X ⊢ X := .rfl

/-- What the launch begins with pays for the call. -/
theorem hu₀ (A : BoxIn F) : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P A).x q thr) := by
  unfold u₀
  iintro Hu
  ihave H := (ownU_pair _ _) $$ Hu
  icases H with ⟨HH, HP⟩
  ihave HP' := (own_pair_emb _ _ _) $$ HP
  icases HP' with ⟨HP, -⟩
  imod (Pipeline.fund_ghost (Pipeline.pin (pcfgs (F := F)) adm) EP cellOf_inj) $$ HP with HP
  imodintro
  isplitl [HH]; · iexact HH
  isplitl [HP]
  · iapply (show iprop((bigSep Finset.univ fun c : Dev nD => bigSep Finset.univ fun p : Fin 1 => Pipeline.cellsGhost (Pipeline.pin (pcfgs (F := F)) adm) EP p c)
        ∗ bigSep Finset.univ fun c : Dev nD => bigSep Finset.univ fun p : Fin 1 => Pipeline.toksInit (Pipeline.pin (pcfgs (F := F)) adm) EP p c)
        ⊢ (bigSep Finset.univ fun d : Dev nD => ghost d : sProp 𝕄) from by
      rw [← bigSep_sep']
      refine bigSep_mono fun c _ => ?_
      rw [show (Finset.univ : Finset (Fin 1)) = {0} from rfl, Idealize.SL.BI.bigSep_singleton, Idealize.SL.BI.bigSep_singleton]
      exact entails_self _)
    iexact HP
  unfold P; dsimp only
  rw [show (bigSep Finset.univ fun _ : Thread nD τ => bigSep Finset.univ fun _ : Fin 1 => (iprop(emp) : sProp 𝕄)) = iprop(emp) from by
    exact (Idealize.SL.BI.bigSep_congr fun _ _ => bigSep_emp_const _).trans (bigSep_emp_const _)]
  iempintro

/-- What a device's final memory holds. -/
def fq (d : Dev nD) (s' : Phys nD τ sig (Elt F)) : Prop := ∀ b ∈ ucRefs, s'.mem.mem (d, b) = V5 m d b

/-- What is held at the end says what the memory is. -/
theorem hfin (d : Dev nD) (s' : Phys nD τ sig (Elt F)) : iprop(FIN m d ∗ SI s') ⊢ (⌜fq m d s'⌝ : sProp 𝕄) := by
  iintro ⟨Hx, HSI⟩
  iapply (SI_pointsTo_bufs_agree (c := d) (st := s') (qs := fun _ => fullShare) (F := V5 m d) ucRefs)
  isplitl [HSI]; · iexact HSI
  exact .rfl

/-- The run: if the call's row numbers are below 7200, every unscoped buffer ends at the last stage's contents and every
    semaphore at zero. -/
theorem run_main [∀ e, Nonempty (Elt F e)] (hix : ∀ d, RowsOK (F := F) ((boxIn m).ix d)) :
    θ_run (defs (F := F)) (threads (F := F)) ⟨m, fun _ => 0, ρ⟩
      fun r => (∀ (d : Dev nD) (b : Ref sig .tc), b.isScoped = false → r.2.mem ((d : Thread nD τ).loc b) = V5 m d b) ∧ r.2.sem = fun _ => 0 :=
  SparseCore.Cfg.θ_run_sc_quiescent (K := K (F := F)) (D := D (F := F)) (𝒱 := 𝒱) (EH := EH) (P := P (boxIn m)) (A := ∅) facts v₀
    (fun q hq => match q with | 0 => nomatch hq)
    (fun q _ => match q with | 0 => tileObl (boxIn m) facts hix)
    (fun q _ => match q with | 0 => SparseCore.Cfg.VecSplit.of_plain (vecSplit (boxIn m)))
    m ρ main (fun d => ghost d) (FIN m) (u₀ (F := F)) (sep_elim_left.trans (hu₀ (boxIn m))) (hmain m ρ) (fq m) (hfin m) _
    (fun s' h hz => ⟨fun d b hb => h d _ (mem_uc b hb), hz⟩)

end Cert.Proof.Ideal

end
-- ==== Proof.Ideal.Values.lean ====
/-
  What the buffers hold between @main's parts, written over the arguments; and the row numbers the SparseCore call is
  given name rows when the matched rows do.
-/
module

public import proofs.«01_k».proof.Proof.Ideal.Run
public import proofs.«01_k».proof.Proof.Gen.Pre_src_in_range
public import proofs.«01_k».proof.Pre_src_in_range
public import Idealize.ShloMosaic.Lib.Pointwise
public import Idealize.ShloMosaic.Lib.ReduceAll
public import Idealize.ShloMosaic.Lib.KernelVsHost

@[expose] public section

noncomputable section

namespace Cert.Proof.Ideal

open Cert.KernelIdeal Cert.KernelIdeal.Gen
open Idealize.ShloMosaic Idealize.ShloMosaic.TcCoe
open Idealize.SL.Sem
open Idealize.ShloMosaic.StableHlo

variable {F : FTy → Type} [FloatOps F]
variable (m : (ℓ : Loc nD τ sig) → Buf (Elt F) ℓ) (d : Dev nD)

/-- The arguments of device `d`, as the launch finds them: the logits, -/
abbrev logits : Vec F S8x900x91 .f32 := m (d, Proc.devRef .tc main_arg0)
/-- the predicted boxes, -/
abbrev boxes : Vec F S8x900x4 .f32 := m (d, Proc.devRef .tc main_arg1)
/-- the target boxes, -/
abbrev targets : Vec F S8x25x4 .f32 := m (d, Proc.devRef .tc main_arg2)
/-- the labels, -/
abbrev labels : IVec S8x25 32 := m (d, Proc.devRef .tc main_arg3)
/-- and the matched rows. -/
abbrev matched : IVec S8x25 32 := m (d, Proc.devRef .tc main_arg4)

/-! ## Entering the region -/

/-- The arguments are unchanged entering the region. -/
theorem V1_arg0 : V1 m d (Proc.devRef .tc main_arg0) = logits m d := by
  show after pre (V0 m d) _ = _; after_results; rfl
theorem V1_arg1 : V1 m d (Proc.devRef .tc main_arg1) = boxes m d := by
  show after pre (V0 m d) _ = _; after_results; rfl
theorem V1_arg2 : V1 m d (Proc.devRef .tc main_arg2) = targets m d := by
  show after pre (V0 m d) _ = _; after_results; rfl
theorem V1_arg3 : V1 m d (Proc.devRef .tc main_arg3) = labels m d := by
  show after pre (V0 m d) _ = _; after_results; rfl
theorem V1_arg4 : V1 m d (Proc.devRef .tc main_arg4) = matched m d := by
  show after pre (V0 m d) _ = _; after_results; rfl
/-- The matched rows as a column, -/
theorem V1_v0 : V1 m d (Proc.devRef .tc main_v0) = broadcastInDim S8x25x1 ![0, 1] bcast_S8x25_S8x25x1_0_1 (matched m d) := by
  show after pre (V0 m d) _ = _; after_results; rfl
/-- as a row, -/
theorem V1_v1 : V1 m d (Proc.devRef .tc main_v1) = broadcastInDim S8x1x25 ![0, 2] bcast_S8x25_S8x1x25_0_2 (matched m d) := by
  show after pre (V0 m d) _ = _; after_results; rfl
/-- and the labels as a row. -/
theorem V1_v2 : V1 m d (Proc.devRef .tc main_v2) = broadcastInDim S8x1x25 ![0, 2] bcast_S8x25_S8x1x25_0_2 (labels m d) := by
  show after pre (V0 m d) _ = _; after_results; rfl

/-! ## At the SparseCore call -/

/-- The flat row numbers: 900 times the image plus the matched row. -/
def flatRows : IVec S8x25 32 :=
  addi (broadcastInDim S8x25 ![0, 1] bcast_S8x1_S8x25_0_1 (muli (broadcastInDim S8x1 ![0] bcast_S8_S8x1_0 (iotaInDim S8 32 0)) (broadcastInDim S8x1 ![] bcast_S_S8x1 (constantI S_ 32 900#32)))) (matched m d)

/-- The arguments are unchanged at the call. -/
theorem V3_arg0 : V3 m d (Proc.devRef .tc main_arg0) = logits m d := by
  show after mid (V2 m d) _ = _; after_results; rw [V2_ne m d _ (by decide), V1_arg0]
theorem V3_arg1 : V3 m d (Proc.devRef .tc main_arg1) = boxes m d := by
  show after mid (V2 m d) _ = _; after_results; rw [V2_ne m d _ (by decide), V1_arg1]
theorem V3_arg2 : V3 m d (Proc.devRef .tc main_arg2) = targets m d := by
  show after mid (V2 m d) _ = _; after_results; rw [V2_ne m d _ (by decide), V1_arg2]
theorem V3_arg3 : V3 m d (Proc.devRef .tc main_arg3) = labels m d := by
  show after mid (V2 m d) _ = _; after_results; rw [V2_ne m d _ (by decide), V1_arg3]
theorem V3_arg4 : V3 m d (Proc.devRef .tc main_arg4) = matched m d := by
  show after mid (V2 m d) _ = _; after_results; rw [V2_ne m d _ (by decide), V1_arg4]
/-- The region's result at the call. -/
theorem V3_v3 : V3 m d (Proc.devRef .tc main_v3) = ceOut (fun c b => V1 m c b) d := by
  show after mid (V2 m d) _ = _; after_results; rw [V2_out]
/-- The flat predicted boxes, -/
theorem V3_v14 : V3 m d (Proc.devRef .tc main_v14) = shapeCast S28800 (boxes m d) shapeCasts_S8x900x4_S28800 := by
  show after mid (V2 m d) _ = _; after_results; rw [V2_ne m d _ (by decide), V1_arg1]; rfl
/-- the flat targets, padded, -/
theorem V3_v13 : V3 m d (Proc.devRef .tc main_v13)
    = pad S832 ![0] ![32] ![0] (shapeCast S800 (targets m d) shapeCasts_S8x25x4_S800) (sitofp .f32 (constantI S_ 32 0#32)) pads_S800_S832_0320 h_S_ := by
  show after mid (V2 m d) _ = _; after_results; rw [V2_ne m d _ (by decide), V1_arg2]; rfl
/-- and the flat row numbers, padded. -/
theorem V3_v11 : V3 m d (Proc.devRef .tc main_v11)
    = pad S208 ![0] ![8] ![0] (shapeCast S200 (flatRows m d) shapeCasts_S8x25_S200) (constantI S_ 32 0#32) pads_S200_S208_080 h_S_ := by
  show after mid (V2 m d) _ = _; after_results; rw [V2_ne m d _ (by decide), V1_arg4]; rfl

/-! ## At the end -/

/-- The arguments are unchanged at the end. -/
theorem V5_arg0 : V5 m d (Proc.devRef .tc main_arg0) = logits m d := by
  show after post (V4 m d) _ = _; after_results; rw [V4_ne m d _ (by decide), V3_arg0]
theorem V5_arg1 : V5 m d (Proc.devRef .tc main_arg1) = boxes m d := by
  show after post (V4 m d) _ = _; after_results; rw [V4_ne m d _ (by decide), V3_arg1]
theorem V5_arg2 : V5 m d (Proc.devRef .tc main_arg2) = targets m d := by
  show after post (V4 m d) _ = _; after_results; rw [V4_ne m d _ (by decide), V3_arg2]
theorem V5_arg3 : V5 m d (Proc.devRef .tc main_arg3) = labels m d := by
  show after post (V4 m d) _ = _; after_results; rw [V4_ne m d _ (by decide), V3_arg3]
theorem V5_arg4 : V5 m d (Proc.devRef .tc main_arg4) = matched m d := by
  show after post (V4 m d) _ = _; after_results; rw [V4_ne m d _ (by decide), V3_arg4]

/-- The sum of sixteen lanes divided by 200. -/
def meanOf (x : Vec F S16 .f32) : Vec F S_ .f32 :=
  Host.divf (Host.reduceAdd x (constant S_ .f32 0x00000000#32) reducesTo_S16_S_d0 h_S_) (constant S_ .f32 0x43480000#32)

/-- The three results: the cross-entropy, the L1 and the GIoU losses. -/
def threeOf (ce : Vec F S1x91 .f32) (o : Vec F S32 .f32) : Vec F S3 .f32 :=
  three
    (broadcastInDim S1 ![] bcast_S_S1 (Host.divf (Host.reduceAdd ce (constant S_ .f32 0x00000000#32) reducesTo_S1x91_S_d0_1 h_S_) (constant S_ .f32 0x43480000#32)))
    (broadcastInDim S1 ![] bcast_S_S1 (meanOf (extractStridedSlice S16 ![0] o slices_S32_S16_0)))
    (broadcastInDim S1 ![] bcast_S_S1 (meanOf (extractStridedSlice S16 ![16] o slices_S32_S16_16)))

/-- The result at the end. -/
theorem V5_v27 : V5 m d (Proc.devRef .tc main_v27) = threeOf (ceOut (fun c b => V1 m c b) d) ((boxIn m).out d) := by
  unfold V5 post
  after_results_simp
  try dsimp only [Matrix.cons_val]
  try after_results_simp
  rw [V4_out, V4_ne m d _ (by decide), V3_v3]
  rfl

/-! ## The row numbers name rows -/

/-- Every matched row is a row of its image. -/
def MatchedOK (s : IVec S8x25 32) : Prop := ∀ j, (s j).toNat < 900

/-- The precondition says that every matched row is a row of its image. -/
theorem matchedOK_of_pre (x0 : FVec F S8x900x91 .f32) (x1 : FVec F S8x900x4 .f32) (x2 : FVec F S8x25x4 .f32) (x3 s : IVec S8x25 32)
    (h : Cert.Pre_src_in_range.fn x0 x1 x2 x3 s = fun _ => 1#1) : MatchedOK s := by
  intro j
  have e := Host.reduce_andi_all _ _ _ _ _ (congrFun h ix0) j
  have e' : IntOp.andi (IntOp.cmpi .sge (s j) 0#32) (IntOp.cmpi .slt (s j) 900#32) = 1#1 := e
  obtain ⟨h1, h2⟩ := IntOp.andi_eq_one.1 e'
  rw [IntOp.cmpi_sge] at h1
  rw [IntOp.cmpi_slt] at h2
  have h3 : (0#32 : BitVec 32).toInt = 0 := by decide
  have h4 : (900#32 : BitVec 32).toInt = 900 := by decide
  rw [h3] at h1
  rw [h4] at h2
  rw [BitVec.toInt_eq_toNat_cond] at h1 h2
  have := (s j).isLt
  split at h1 <;> omega

/-- A flat row number. -/
theorem flatRows_toNat (h : MatchedOK (matched m d)) (a : Fin 8) (b : Fin 25) :
    (flatRows m d (ix2 a b)).toNat = 900 * a.val + (matched m d (ix2 a b)).toNat := by
  have e : flatRows m d (ix2 a b) = BitVec.ofNat 32 a.val * 900#32 + matched m d (ix2 a b) := by
    unfold flatRows
    pointwise
    rfl
  have hs := h (ix2 a b)
  rw [e, BitVec.toNat_add, BitVec.toNat_mul, BitVec.toNat_ofNat]
  have := a.isLt
  show (a.val % 4294967296 * 900 % 4294967296 + _) % 4294967296 = _
  rw [Nat.mod_eq_of_lt (a := a.val) (by omega), Nat.mod_eq_of_lt (a := a.val * 900) (by omega), Nat.mod_eq_of_lt (by omega)]
  omega

/-- Then every row number the call is given names a row. -/
theorem rowsOK_of (h : MatchedOK (matched m d)) : RowsOK (F := F) ((boxIn m).ix d) := by
  intro j
  show (BitVec.toNat (V3 m d (Proc.devRef .tc main_v11) j)) < 7200
  rw [V3_v11]
  idx_vars j
  pointwise
  split
  · rw [flatRows_toNat m d h]
    have := h (ix2 ⟨j0.val / 25, by omega⟩ ⟨j0.val % 25, by omega⟩)
    show 900 * (j0.val / 25) + _ < 7200
    omega
  · decide

/-! ## The whole run -/

/-- From matched rows that are rows of their images, every run ends with the result at `threeOf` of the cross-entropy's
    column sums and the SparseCore call's 32 words, the arguments unchanged and the counters at zero. -/
theorem run_value [∀ e, Nonempty (Elt F e)] (ρ : Dev nD → PrngReg) (h : ∀ d, MatchedOK (matched m d)) :
    θ_run (defs (F := F)) (threads (F := F)) ⟨m, fun _ => 0, ρ⟩ fun r =>
      (∀ d : Dev nD, r.2.mem ((d : Thread nD τ).loc main_v27) = threeOf (ceOut (fun c b => V1 m c b) d) ((boxIn m).out d)
        ∧ r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)
        ∧ r.2.mem ((d : Thread nD τ).loc main_arg3) = m ((d : Thread nD τ).loc main_arg3)
        ∧ r.2.mem ((d : Thread nD τ).loc main_arg4) = m ((d : Thread nD τ).loc main_arg4))
      ∧ r.2.sem = fun _ => 0 :=
  (θ_run (defs (F := F)) (threads (F := F)) _).mono
    (fun r hr => ⟨fun d => ⟨(hr.1 d main_v27 rfl).trans (V5_v27 m d), (hr.1 d main_arg0 rfl).trans (V5_arg0 m d), (hr.1 d main_arg1 rfl).trans (V5_arg1 m d),
      (hr.1 d main_arg2 rfl).trans (V5_arg2 m d), (hr.1 d main_arg3 rfl).trans (V5_arg3 m d), (hr.1 d main_arg4 rfl).trans (V5_arg4 m d)⟩, hr.2⟩)
    (run_main m ρ fun d => rowsOK_of m d (h d))

end Cert.Proof.Ideal

end
-- ==== Proof.Bits.BoxEq.lean ====
/-
  The kernel's body on the working subcore is the program `boxProg`; on every other subcore it does nothing.
-/
module

public import proofs.«01_k».proof.Proof.Bits.BoxProg

@[expose] public section

noncomputable section

namespace Cert.Proof.Bits

open Cert.Kernel Cert.Kernel.Gen
open Idealize.ShloMosaic Idealize.SL.Sem

variable {F : FTy → Type} [FloatOps F]

variable (i : grid1.Coords) (arg2 : Memref sig .scVector .hbm S28800 .f32) (harg2 : arg2.IsWhole) (arg3 : Memref sig .scVector .hbm S832 .f32) (harg3 : arg3.IsWhole)
  (arg4 : Memref sig .scVector .hbm S208 .i32) (harg4 : arg4.IsWhole) (arg5 : Memref sig .scVector .hbm S32 .f32) (harg5 : arg5.IsWhole)
  (arg6 : Memref sig .scVector .vmem S28800 .f32) (harg6 : arg6.IsWhole) (arg7 : Memref sig .scVector .vmem S832 .f32) (harg7 : arg7.IsWhole)
  (arg8 : Memref sig .scVector .vmem S208 .i32) (harg8 : arg8.IsWhole) (arg9 : Memref sig .scVector .vmem S32 .f32) (harg9 : arg9.IsWhole)
  (r0 r1 r2 r3 : DmaSems sig S_) (h1 : k1_cond1 i = 1#1)

set_option maxRecDepth 65536 in
set_option maxHeartbeats 0 in
/-- On the working subcore the printed body is the program above. -/
theorem then_eq :
    cc1__box_body (F := F) i arg2 harg2 arg3 harg3 arg4 harg4 arg5 harg5 arg6 harg6 arg7 harg7 arg8 harg8 arg9 harg9 r0 r1 r2 r3
      = boxProg (F := F) i arg2 harg2 arg3 harg3 arg4 harg4 arg5 harg5 arg6 harg6 arg7 harg7 arg8 harg8 arg9 harg9 r0 r1 r2 r3 h1 := by
  unfold cc1__box_body
  rw [dif_pos h1]
  rfl

/-- On every other subcore the body does nothing. -/
theorem else_eq (h : ¬ k1_cond1 i = 1#1) :
    cc1__box_body (F := F) i arg2 harg2 arg3 harg3 arg4 harg4 arg5 harg5 arg6 harg6 arg7 harg7 arg8 harg8 arg9 harg9 r0 r1 r2 r3 = pure ⟨⟩ := by
  unfold cc1__box_body
  rw [dif_neg h]

end Cert.Proof.Bits

end
-- ==== Proof.Ideal.Focal.lean ====
/-
  The focal loss of one logit over the extended reals: the kernel's two branches, one per side of the comparison of the
  column with the class, are the reference's one formula at the one-hot values 1 and 0, infinite logits included.
-/
module

public import Idealize.ShloMosaic.PureOps.Ideal
public import Idealize.ShloMosaic.Lib.IdealHost

@[expose] public section

noncomputable section

namespace Cert.Proof.Math

open Idealize.ShloMosaic

/-! ## The constants -/

/-- The pattern of 0.25 denotes a quarter. -/
theorem bits_quarter : Ideal.ofBits .f32 0x3E800000#32 = ((1 / 4 : ℝ) : EReal) := by
  simp [Ideal.ofBits, Ideal.ieee, -EReal.coe_mul]; norm_num
/-- The pattern of 0.75 denotes three quarters. -/
theorem bits_three_quarters : Ideal.ofBits .f32 0x3F400000#32 = ((3 / 4 : ℝ) : EReal) := by
  simp [Ideal.ofBits, Ideal.ieee, -EReal.coe_mul]; norm_num
/-- The pattern of 2.0 denotes two. -/
theorem bits_two : Ideal.ofBits .f32 0x40000000#32 = ((2 : ℝ) : EReal) := by
  simp [Ideal.ofBits, Ideal.ieee, -EReal.coe_mul]; norm_num
/-- The pattern of 200.0 denotes two hundred. -/
theorem bits_200 : Ideal.ofBits .f32 0x43480000#32 = ((200 : ℝ) : EReal) := by
  simp [Ideal.ofBits, Ideal.ieee, -EReal.coe_mul]; norm_num
/-- The pattern of 900.0 denotes nine hundred. -/
theorem bits_900 : Ideal.ofBits .f32 0x44610000#32 = ((900 : ℝ) : EReal) := by
  simp [Ideal.ofBits, Ideal.ieee, -EReal.coe_mul]; norm_num

/-! ## The two forms -/

/-- The exponential of minus the magnitude. -/
def expAbs (x : EReal) : EReal := Ideal.exp (0 - max x (-x))
/-- The sigmoid, as the kernel forms it. -/
def prob (x : EReal) : EReal := Ideal.div (if 0 ≤ x then 1 else expAbs x) (1 + expAbs x)
/-- The softplus, as the kernel forms it. -/
def softplus (x : EReal) : EReal := max x 0 + Ideal.log (1 + expAbs x)
/-- The kernel's loss where the column is the class. -/
def lossHit (x : EReal) : EReal :=
  Ideal.ofBits .f32 0x3E800000#32 * (1 - prob x) * (1 - prob x) * (softplus x - x)
/-- The kernel's loss where it is not. -/
def lossMiss (x : EReal) : EReal := Ideal.ofBits .f32 0x3F400000#32 * prob x * prob x * softplus x

/-- The reference's sigmoid. -/
def sigmoid (x : EReal) : EReal := Ideal.div 1 (1 + Ideal.exp (-x))
/-- The reference's loss of a logit `x` at the one-hot value `o`. -/
def lossAt (x o : EReal) : EReal :=
  (Ideal.ofBits .f32 0x3E800000#32 * o + Ideal.ofBits .f32 0x3F400000#32 * (1 - o)) *
    ((max 0 x - x * o + Ideal.log1p (Ideal.exp (-max x (-x)))) *
      Ideal.pow (1 - (sigmoid x * o + (1 - sigmoid x) * (1 - o))) (Ideal.ofBits .f32 0x40000000#32))

/-! ## They agree -/

/-- One less one. -/
theorem one_sub_one : (1 : EReal) - 1 = 0 := by
  rw [← EReal.coe_one, ← EReal.coe_sub, sub_self, EReal.coe_zero]

/-- The larger of two reals, as extended reals. -/
theorem coe_max (x y : ℝ) : ((max x y : ℝ) : EReal) = max (x : EReal) (y : EReal) :=
  EReal.coe_strictMono.monotone.map_max

/-- The exponential at a real. -/
theorem expAbs_coe (x : ℝ) : expAbs x = ((Real.exp (-|x|) : ℝ) : EReal) := by
  unfold expAbs
  rw [← EReal.coe_neg, ← coe_max, zero_sub, ← EReal.coe_neg, Ideal.exp_coe]
  rfl

/-- The kernel's probability at a real is the logistic function. -/
theorem prob_coe (x : ℝ) : prob x = (((1 + Real.exp (-x))⁻¹ : ℝ) : EReal) := by
  have hp := Real.exp_pos (-|x|)
  unfold prob
  rw [expAbs_coe, ← EReal.coe_one, ← EReal.coe_add, ← EReal.coe_zero]
  by_cases h : 0 ≤ x
  · rw [if_pos (EReal.coe_le_coe_iff.2 h), Ideal.div_coe (by positivity), ← EReal.coe_mul, one_mul, one_div, abs_of_nonneg h]
  · have h' : x < 0 := not_le.1 h
    rw [if_neg (fun q => h (EReal.coe_le_coe_iff.1 q)), Ideal.div_coe (by positivity), ← EReal.coe_mul, abs_of_neg h', neg_neg]
    congr 1
    have := Real.exp_pos x
    rw [Real.exp_neg]
    field_simp
    ring

/-- So is the reference's. -/
theorem sigmoid_coe (x : ℝ) : sigmoid x = (((1 + Real.exp (-x))⁻¹ : ℝ) : EReal) := by
  have hp := Real.exp_pos (-x)
  unfold sigmoid
  rw [← EReal.coe_neg, Ideal.exp_coe, ← EReal.coe_one, ← EReal.coe_add, Ideal.div_coe (by positivity), ← EReal.coe_mul, one_mul, one_div]

/-- The logarithm in the softplus, at a real. -/
theorem log_expAbs_coe (x : ℝ) : Ideal.log (1 + expAbs x) = ((Real.log (1 + Real.exp (-|x|)) : ℝ) : EReal) := by
  have hp := Real.exp_pos (-|x|)
  rw [expAbs_coe, ← EReal.coe_one, ← EReal.coe_add, Ideal.log_coe, if_neg (not_le.2 (by positivity))]

/-- The softplus at a real. -/
theorem softplus_coe (x : ℝ) : softplus x = ((max x 0 + Real.log (1 + Real.exp (-|x|)) : ℝ) : EReal) := by
  unfold softplus
  rw [log_expAbs_coe, ← EReal.coe_zero, ← coe_max, ← EReal.coe_add]

/-- The reference's logarithm is the kernel's. -/
theorem log1p_eq (x : EReal) : Ideal.log1p (Ideal.exp (-max x (-x))) = Ideal.log (1 + expAbs x) := by
  unfold expAbs Ideal.log1p
  rw [zero_sub]

/-- A real power of a real. -/
theorem pow_coe (x y : ℝ) : Ideal.pow x y = ((Real.rpow x y : ℝ) : EReal) := rfl

/-- Its second power is its square. -/
theorem pow_two (x : ℝ) : Ideal.pow x ((2 : ℝ) : EReal) = ((x * x : ℝ) : EReal) := by
  rw [pow_coe]
  congr 1
  show x ^ (2 : ℝ) = _
  rw [Real.rpow_two, sq]

/-- At a real logit the two forms agree at both one-hot values. -/
theorem lossAt_real (x : ℝ) : lossAt x 1 = lossHit x ∧ lossAt x 0 = lossMiss x := by
  unfold lossAt lossHit lossMiss
  rw [log1p_eq, log_expAbs_coe, prob_coe, sigmoid_coe, softplus_coe, bits_quarter, bits_three_quarters, bits_two,
    ← EReal.coe_zero, ← EReal.coe_one, ← coe_max, max_comm (0 : ℝ) x]
  simp only [← EReal.coe_add, ← EReal.coe_sub, ← EReal.coe_mul, pow_two]
  constructor <;> congr 1 <;> ring

/-- The exponential at plus infinity, -/
theorem expAbs_top : expAbs ⊤ = 0 := by
  unfold expAbs
  rw [EReal.neg_top, max_eq_left bot_le, zero_sub, EReal.neg_top, Ideal.exp_bot]
/-- and at minus infinity. -/
theorem expAbs_bot : expAbs ⊥ = 0 := by
  unfold expAbs
  rw [EReal.neg_bot, max_eq_right bot_le, zero_sub, EReal.neg_top, Ideal.exp_bot]
/-- The logarithm of one. -/
theorem log_one : Ideal.log (1 + 0) = 0 := by
  rw [add_zero, ← EReal.coe_one, Ideal.log_coe, if_neg (by norm_num), Real.log_one]; rfl
/-- A quotient by one. -/
theorem div_one (x : EReal) : Ideal.div x 1 = x := by
  rw [← EReal.coe_one, Ideal.div_coe one_ne_zero, div_self one_ne_zero, EReal.coe_one, mul_one]
/-- The kernel's probability at plus infinity, -/
theorem prob_top : prob ⊤ = 1 := by
  unfold prob
  rw [expAbs_top, if_pos le_top, add_zero, div_one]
/-- and at minus infinity. -/
theorem prob_bot : prob ⊥ = 0 := by
  unfold prob
  rw [expAbs_bot, if_neg (by simp), add_zero, div_one]
/-- The reference's probability at plus infinity, -/
theorem sigmoid_top : sigmoid ⊤ = 1 := by
  unfold sigmoid
  rw [EReal.neg_top, Ideal.exp_bot, add_zero, div_one]
/-- and at minus infinity. -/
theorem sigmoid_bot : sigmoid ⊥ = 0 := by
  unfold sigmoid Ideal.div
  rw [EReal.neg_bot, Ideal.exp_top, ← EReal.coe_one, EReal.coe_add_top, if_neg (by simp), EReal.inv_top, mul_zero]
/-- The softplus at plus infinity, -/
theorem softplus_top : softplus ⊤ = ⊤ := by
  unfold softplus
  rw [expAbs_top, log_one, max_eq_left le_top, add_zero]
/-- and at minus infinity. -/
theorem softplus_bot : softplus ⊥ = 0 := by
  unfold softplus
  rw [expAbs_bot, log_one, max_eq_right bot_le, add_zero]

/-- The square of zero, -/
theorem pow_zero_two : Ideal.pow 0 ((2 : ℝ) : EReal) = 0 := by
  rw [← EReal.coe_zero, pow_two, mul_zero]
/-- and of one. -/
theorem pow_one_two : Ideal.pow 1 ((2 : ℝ) : EReal) = 1 := by
  rw [← EReal.coe_one, pow_two, mul_one]

/-- The two forms agree at every logit where the column is the class, -/
theorem lossAt_one (x : EReal) : lossAt x 1 = lossHit x := by
  induction x with
  | coe x => exact (lossAt_real x).1
  | top =>
    unfold lossAt lossHit
    rw [prob_top, sigmoid_top, softplus_top, bits_two, one_sub_one]
    simp [one_sub_one, pow_zero_two]
  | bot =>
    unfold lossAt lossHit
    rw [prob_bot, sigmoid_bot, softplus_bot, log1p_eq, expAbs_bot, log_one, bits_two, bits_quarter, bits_three_quarters, one_sub_one]
    simp [pow_one_two]
/-- and where it is not. -/
theorem lossAt_zero (x : EReal) : lossAt x 0 = lossMiss x := by
  induction x with
  | coe x => exact (lossAt_real x).2
  | top =>
    unfold lossAt lossMiss
    rw [prob_top, sigmoid_top, softplus_top, log1p_eq, expAbs_top, log_one, bits_two, bits_quarter, bits_three_quarters]
    simp [one_sub_one, pow_one_two]
  | bot =>
    unfold lossAt lossMiss
    rw [prob_bot, sigmoid_bot, softplus_bot, bits_two]
    simp [one_sub_one, pow_zero_two]

end Cert.Proof.Math

end
-- ==== Proof.Ideal.CeValue.lean ====
/-
  What the cross-entropy kernel adds up, over the extended reals: each column's accumulator is the sum, over the images
  and their queries, of the focal loss of the logit against the query's class word.
-/
module

public import proofs.«01_k».proof.Proof.Ideal.Values
public import proofs.«01_k».proof.Proof.Ideal.Focal
public import Mathlib.Data.BitVec

@[expose] public section

set_option maxRecDepth 16384

noncomputable section

namespace Cert.Proof.Math

open Idealize.ShloMosaic Idealize.ShloMosaic.TcCoe Idealize.SL.Sem
open Cert.KernelIdeal Cert.KernelIdeal.Gen Cert.Proof.Ideal

/-! ## The class word of a query -/

/-- Place `j` is followed by a later place holding the same word. -/
def Again (s : Fin 25 → BitVec 32) (j : Fin 25) : Prop := ∃ j', s j' = s j ∧ j < j'

/-- The kernel's mark of such a place: the largest of ones and zeros is above zero. -/
def mark (s : Fin 25 → BitVec 32) (j : Fin 25) : BitVec 1 :=
  BitVec.ofBool (decide (0 < Finset.fold max (Ideal.ofBits FTy.f32 0xFF800000#32)
    (fun j' : Fin 25 => Scalar.select (IntOp.andi (IntOp.cmpi .eq (s j') (s j)) (IntOp.cmpi .sgt (BitVec.ofNat 32 j'.val) (BitVec.ofNat 32 j.val))) (1 : EReal) 0)
    Finset.univ))

/-- The kernel's class word for row `w`: 91 plus, over the places, the label less 91 where the place holds `w` and no
    later place does. -/
def word (s l : Fin 25 → BitVec 32) (w : BitVec 32) : BitVec 32 :=
  IntOp.addi 91#32 (Finset.fold IntOp.addi 0#32
    (fun j : Fin 25 => Scalar.select (IntOp.andi (IntOp.cmpi .eq w (s j)) (IntOp.xori (mark s j) 1#1)) (IntOp.subi (l j) 91#32) 0#32) Finset.univ)

/-- Comparing two places as words compares the places. -/
theorem sgt_iff (j' j : Fin 25) : IntOp.cmpi .sgt (BitVec.ofNat 32 j'.val) (BitVec.ofNat 32 j.val) = 1#1 ↔ j < j' := by
  have : ∀ a b : Fin 25, IntOp.cmpi .sgt (BitVec.ofNat 32 a.val) (BitVec.ofNat 32 b.val) = 1#1 ↔ b < a := by decide
  exact this j' j

/-- Two words compare equal when they are. -/
theorem eq_iff (a b : BitVec 32) : IntOp.cmpi .eq a b = 1#1 ↔ a = b := by
  show BitVec.ofBool (a == b) = 1#1 ↔ _
  by_cases h : a = b
  · simp [h]
  · rw [show (a == b) = false from beq_eq_false_iff_ne.2 h]
    exact ⟨fun q => absurd q (by decide), fun q => absurd q h⟩

/-- A selection whose condition holds, -/
theorem select_pos {α : Type} {c : BitVec 1} (h : c = 1#1) (a b : α) : Scalar.select c a b = a := if_pos h
/-- and one whose condition does not. -/
theorem select_neg {α : Type} {c : BitVec 1} (h : ¬ c = 1#1) (a b : α) : Scalar.select c a b = b := if_neg h

/-- A place matched again later is marked, -/
theorem mark_of (s : Fin 25 → BitVec 32) (j : Fin 25) (h : Again s j) : mark s j = 1#1 := by
  obtain ⟨j', e, lt⟩ := h
  unfold mark
  rw [decide_eq_true]
  · rfl
  rw [Finset.lt_fold_max]
  refine .inr ⟨j', Finset.mem_univ _, ?_⟩
  rw [IntOp.andi_eq_one.2 ⟨(eq_iff _ _).2 e, (sgt_iff _ _).2 lt⟩]
  exact zero_lt_one

/-- and one not matched again is not. -/
theorem mark_not (s : Fin 25 → BitVec 32) (j : Fin 25) (h : ¬ Again s j) : mark s j = 0#1 := by
  unfold mark
  rw [decide_eq_false]
  · rfl
  rw [Finset.lt_fold_max]
  rintro (q | ⟨j', -, q⟩)
  · revert q
    simp [Ideal.ofBits, Ideal.ieee]
  · by_cases c : IntOp.andi (IntOp.cmpi .eq (s j') (s j)) (IntOp.cmpi .sgt (BitVec.ofNat 32 j'.val) (BitVec.ofNat 32 j.val)) = 1#1
    · obtain ⟨c1, c2⟩ := IntOp.andi_eq_one.1 c
      exact h ⟨j', (eq_iff _ _).1 c1, (sgt_iff _ _).1 c2⟩
    · rw [select_neg c] at q
      exact lt_irrefl _ q

/-- Folding the addition of words is summing them. -/
theorem fold_addi (f : Fin 25 → BitVec 32) : Finset.fold IntOp.addi 0#32 f Finset.univ = ∑ j, f j :=
  (Finset.sum_eq_fold Finset.univ f).symm

/-- A row no place holds has class word 91. -/
theorem word_none (s l : Fin 25 → BitVec 32) (w : BitVec 32) (h : ∀ j, s j ≠ w) : word s l w = 91#32 := by
  unfold word
  rw [fold_addi, Finset.sum_eq_zero]
  · rfl
  intro j _
  rw [select_neg]
  · rfl
  intro q
  exact h j ((eq_iff _ _).1 (IntOp.andi_eq_one.1 q).1).symm

/-- A row's class word is the label of the last place that holds it. -/
theorem word_last (s l : Fin 25 → BitVec 32) (w : BitVec 32) (k : Fin 25) (hk : s k = w) (hl : ∀ j, k < j → s j ≠ w) :
    word s l w = l k := by
  unfold word
  rw [fold_addi, Finset.sum_eq_single k]
  · rw [select_pos]
    · show 91#32 + (l k - 91#32) = l k
      rw [add_sub_cancel]
    · refine IntOp.andi_eq_one.2 ⟨(eq_iff _ _).2 hk.symm, ?_⟩
      rw [mark_not]
      · rfl
      rintro ⟨j', e, lt⟩
      exact hl j' lt (e.trans hk)
  · intro j _ hj
    rw [select_neg]
    · rfl
    intro q
    obtain ⟨q1, q2⟩ := IntOp.andi_eq_one.1 q
    have hs : s j = w := ((eq_iff _ _).1 q1).symm
    have hlt : j < k := lt_of_le_of_ne (not_lt.1 fun c => hl j c hs) hj
    rw [mark_of s j ⟨k, hk.trans hs.symm, hlt⟩] at q2
    exact absurd q2 (by decide)
  · intro q
    exact absurd (Finset.mem_univ k) q

/-! ## One image -/

/-- The kernel's loss of a logit against a class word. -/
def lossOfWord (x : EReal) (w : BitVec 32) (c : Fin 91) : EReal :=
  if BitVec.ofNat 32 c.val = w then lossHit x else lossMiss x

/-- The class word the body computes for a query is `word`. -/
theorem class_apply (a : Vec Ideal S1x25x1 .i32) (b l : Vec Ideal S1x1x25 .i32) (s : Fin 25 → BitVec 32)
    (ha : ∀ j, a (ix3 0 j 0) = s j) (hb : ∀ j, b (ix3 0 0 j) = s j) (r : Fin 900) :
    k0_pay2 (F := Ideal) a b l (ix2 r 0) = word s (fun j => l (ix3 0 0 j)) (BitVec.ofNat 32 r.val) := by
  unfold word mark
  pointwise [k0_pay2]
  simp only [ha, hb]

/-- One image's step adds, in each column, the losses of its 900 queries. -/
theorem step_apply (x : Vec Ideal S1x900x91 .f32) (v : IVec S900x1 32) (acc : Vec Ideal S1x91 .f32) (c : Fin 91) :
    k0_pay4 (F := Ideal) (k0_pay1 x) v acc (ix2 0 c)
      = acc (ix2 0 c) + ∑ r : Fin 900, lossOfWord (x (ix3 0 r c)) (v (ix2 r 0)) c := by
  have e : ∀ (w : BitVec 32) (p q : EReal), Scalar.select (IntOp.cmpi .eq (BitVec.ofNat 32 c.val) w) p q
      = if BitVec.ofNat 32 c.val = w then p else q := fun w p q => if_congr (eq_iff _ _) rfl rfl
  pointwise [k0_pay4, k0_pay1]
  simp only [e]
  rfl

/-! ## The blocks -/

section Blocks

variable (V : (c : Dev nD) → (b : Ref sig .tc) → Buf (Elt Ideal) ((c : Thread nD τ).loc b)) (d : Dev nD) (t : Fin cfg0.N)

/-- The logits' block at a point is that image's, -/
theorem blkX_apply (r : Fin 900) (k : Fin 91) :
    blkX V d t (ix3 0 r k) = (V d main_arg0 : Vec Ideal S8x900x91 .f32) (ix3 (t.cast N_0) r k) := by
  have e : ((cfg0.win 0).blk t).view.emb (ix3 0 r k) = ix3 (t.cast N_0) r k := by
    funext a
    apply Fin.ext
    match a with
    | ⟨0, _⟩ =>
      rcases fin_N0 t with rfl | rfl | rfl | rfl | rfl | rfl | rfl | rfl <;> rfl
    | ⟨1, _⟩ =>
      show 0 + 1 * r.val = r.val
      omega
    | ⟨2, _⟩ =>
      show 0 + 1 * k.val = k.val
      omega
  exact congrArg (V d main_arg0 : Vec Ideal S8x900x91 .f32) e

/-- so are the matched rows' as a column, -/
theorem blkA_apply (j : Fin 25) :
    blkA V d t (ix3 0 j 0) = (V d main_v0 : Vec Ideal S8x25x1 .i32) (ix3 (t.cast N_0) j 0) := by
  have e : ((cfg0.win 1).blk t).view.emb (ix3 0 j 0) = ix3 (t.cast N_0) j 0 := by
    funext a
    apply Fin.ext
    match a with
    | ⟨0, _⟩ =>
      rcases fin_N0 t with rfl | rfl | rfl | rfl | rfl | rfl | rfl | rfl <;> rfl
    | ⟨1, _⟩ =>
      show 0 + 1 * j.val = j.val
      omega
    | ⟨2, _⟩ => rfl
  exact congrArg (V d main_v0 : Vec Ideal S8x25x1 .i32) e

/-- as a row, -/
theorem blkB_apply (j : Fin 25) :
    blkB V d t (ix3 0 0 j) = (V d main_v1 : Vec Ideal S8x1x25 .i32) (ix3 (t.cast N_0) 0 j) := by
  have e : ((cfg0.win 2).blk t).view.emb (ix3 0 0 j) = ix3 (t.cast N_0) 0 j := by
    funext a
    apply Fin.ext
    match a with
    | ⟨0, _⟩ =>
      rcases fin_N0 t with rfl | rfl | rfl | rfl | rfl | rfl | rfl | rfl <;> rfl
    | ⟨1, _⟩ => rfl
    | ⟨2, _⟩ =>
      show 0 + 1 * j.val = j.val
      omega
  exact congrArg (V d main_v1 : Vec Ideal S8x1x25 .i32) e

/-- and the labels'. -/
theorem blkL_apply (j : Fin 25) :
    blkL V d t (ix3 0 0 j) = (V d main_v2 : Vec Ideal S8x1x25 .i32) (ix3 (t.cast N_0) 0 j) := by
  have e : ((cfg0.win 3).blk t).view.emb (ix3 0 0 j) = ix3 (t.cast N_0) 0 j := by
    funext a
    apply Fin.ext
    match a with
    | ⟨0, _⟩ =>
      rcases fin_N0 t with rfl | rfl | rfl | rfl | rfl | rfl | rfl | rfl <;> rfl
    | ⟨1, _⟩ => rfl
    | ⟨2, _⟩ =>
      show 0 + 1 * j.val = j.val
      omega
  exact congrArg (V d main_v2 : Vec Ideal S8x1x25 .i32) e

end Blocks

/-! ## All the images -/

variable (m : (ℓ : Loc nD τ sig) → Buf (Elt Ideal) ℓ) (d : Dev nD)

/-- The loss of query `(b, r)` in column `c`. -/
def lossCell (b : Fin 8) (r : Fin 900) (c : Fin 91) : EReal :=
  lossOfWord (logits m d (ix3 b r c))
    (word (fun j => matched m d (ix2 b j)) (fun j => labels m d (ix2 b j)) (BitVec.ofNat 32 r.val)) c

/-- One point adds its image's queries' losses to each column. -/
theorem point_apply (t : Fin cfg0.N) (acc : Vec Ideal S1x91 .f32) (c : Fin 91) :
    ceStep (blkX (fun c b => V1 m c b) d t) (blkA (fun c b => V1 m c b) d t) (blkB (fun c b => V1 m c b) d t) (blkL (fun c b => V1 m c b) d t) acc (ix2 0 c)
      = acc (ix2 0 c) + ∑ r : Fin 900, lossCell m d (t.cast N_0) r c := by
  have hX : ∀ r : Fin 900, blkX (fun c b => V1 m c b) d t (ix3 0 r c) = logits m d (ix3 (t.cast N_0) r c) := fun r => by
    rw [blkX_apply, V1_arg0]
  have hA : ∀ j : Fin 25, blkA (fun c b => V1 m c b) d t (ix3 0 j 0) = matched m d (ix2 (t.cast N_0) j) := fun j => by
    rw [blkA_apply, V1_v0]
    pointwise
  have hB : ∀ j : Fin 25, blkB (fun c b => V1 m c b) d t (ix3 0 0 j) = matched m d (ix2 (t.cast N_0) j) := fun j => by
    rw [blkB_apply, V1_v1]
    pointwise
  have hL : ∀ j : Fin 25, blkL (fun c b => V1 m c b) d t (ix3 0 0 j) = labels m d (ix2 (t.cast N_0) j) := fun j => by
    rw [blkL_apply, V1_v2]
    pointwise
  unfold ceStep
  rw [step_apply]
  refine congrArg (fun z => acc (ix2 0 c) + z) (Finset.sum_congr rfl fun r _ => ?_)
  unfold lossCell
  rw [hX, class_apply _ _ _ (fun j => matched m d (ix2 (t.cast N_0) j)) hA hB]
  simp only [hL]

/-- The accumulator after point `n`: the first `n + 1` images' sums. -/
theorem acc_apply (c : Fin 91) : ∀ (n : ℕ) (h : n < cfg0.N),
    accAt (fun c b => V1 m c b) d n h (ix2 0 c)
      = ∑ i ∈ Finset.range (n + 1), if hi : i < 8 then ∑ r : Fin 900, lossCell m d ⟨i, hi⟩ r c else 0
  | 0, h => by
    have hz : (k0_pay3 (F := Ideal)) (ix2 0 c) = (0 : EReal) := by pointwise [k0_pay3]
    unfold accAt
    rw [point_apply, hz, zero_add, Finset.sum_range_one, dif_pos (by decide)]
    rfl
  | n + 1, h => by
    have h8 : n + 1 < 8 := N_0 ▸ h
    unfold accAt
    rw [point_apply, acc_apply c n, Finset.sum_range_succ _ (n + 1), dif_pos h8]
    rfl

/-- The kernel's output in each column: the sum over the images and their queries. -/
theorem ceOut_apply (c : Fin 91) :
    (ceOut (fun c b => V1 m c b) d : Vec Ideal S1x91 .f32) (ix2 0 c) = ∑ b : Fin 8, ∑ r : Fin 900, lossCell m d b r c := by
  refine (acc_apply m d c 7 (by rw [show cfg0.N = 8 from N_0]; decide)).trans ?_
  rw [Finset.sum_range]
  exact Finset.sum_congr rfl fun b _ => dif_pos b.isLt

end Cert.Proof.Math

end
-- ==== Proof.Ideal.RefIndex.lean ====
/-
  The reference's index pairs: at a matched pair they name its image and its row, so its gather reads that row of the
  predicted boxes and its scatter leaves, at each query, the label of the last pair matched to it.
-/
module

public import proofs.«01_k».proof.Proof.Gen.ReferenceIdeal.Run
public import Idealize.ShloMosaic.Lib.Pointwise
public import Idealize.ShloMosaic.Lib.Tactic.CleanTypes
public import Idealize.ShloMosaic.Lib.Routing.OpsPair

@[expose] public section

set_option maxRecDepth 16384

noncomputable section

namespace Cert.Proof.Math

open Idealize.ShloMosaic Idealize.ShloMosaic.TcCoe Idealize.SL.Sem
open Cert.ReferenceIdeal Cert.ReferenceIdeal.Gen Cert.ReferenceIdeal.Value

/-- Taking, along a list of positions, the value at each that hits: at the end it is the last hit's, or the first value if
    nothing hit. -/
theorem foldl_last_cases {α : Type} : ∀ {N : ℕ} (P : Fin N → Prop) [DecidablePred P] (v : Fin N → α) (a0 : α),
    (∃ k, P k ∧ (∀ k', k < k' → ¬P k') ∧ (List.finRange N).foldl (fun a n => if P n then v n else a) a0 = v k)
      ∨ ((∀ k, ¬P k) ∧ (List.finRange N).foldl (fun a n => if P n then v n else a) a0 = a0)
  | 0, _, _, _, _ => .inr ⟨fun k => k.elim0, rfl⟩
  | N + 1, P, _, v, a0 => by
    have e : (List.finRange (N + 1)).foldl (fun a n => if P n then v n else a) a0
        = if P (Fin.last N) then v (Fin.last N)
          else (List.finRange N).foldl (fun a n => if P n.castSucc then v n.castSucc else a) a0 := by
      rw [List.finRange_succ_last, List.foldl_append, List.foldl_map]
      rfl
    rw [e]
    by_cases h : P (Fin.last N)
    · exact .inl ⟨Fin.last N, h, fun k' hk' => absurd hk' (not_lt.2 (Fin.le_last k')), if_pos h⟩
    rw [if_neg h]
    rcases foldl_last_cases (fun n => P n.castSucc) (fun n => v n.castSucc) a0 with ⟨k, hk, hl, ek⟩ | ⟨hn, e0⟩
    · refine .inl ⟨k.castSucc, hk, fun k' => ?_, ek⟩
      refine Fin.lastCases (fun _ => h) (fun k'' hk'' => hl k'' ?_) k'
      exact Fin.castSucc_lt_castSucc_iff.1 hk''
    · exact .inr ⟨fun k => Fin.lastCases h hn k, e0⟩

variable (V0 : Valuation τ sig (Elt Ideal))

/-- The index pairs of the 200 matched pairs: the image and the matched row, each wrapped as an index is. -/
def rowPairs : IVec S200x2 32 :=
  concatenate S200x2 1
    [⟨S200x1, broadcastInDim S200x1 ![0] bcast_S200_S200x1_0
        (select (cmpi .slt (res_main_v3 V0) (broadcastInDim S200 ![] bcast_S_S200 (constantI S_ 32 0#32)))
          (addi (res_main_v3 V0) (broadcastInDim S200 ![] bcast_S_S200 (constantI S_ 32 8#32))) (res_main_v3 V0))⟩,
      ⟨S200x1, broadcastInDim S200x1 ![0] bcast_S200_S200x1_0
        (select (cmpi .slt (res_main_v4 V0) (broadcastInDim S200 ![] bcast_S_S200 (constantI S_ 32 0#32)))
          (addi (res_main_v4 V0) (broadcastInDim S200 ![] bcast_S_S200 (constantI S_ 32 900#32))) (res_main_v4 V0))⟩]
    concatenates_S200x1_S200x1_S200x2_d1

/-- The image of pair `p` and its place in it. -/
def imageOf (p : Fin 200) : Fin 8 := ⟨p.val / 25, by omega⟩
/-- The place of pair `p` in its image. -/
def placeOf (p : Fin 200) : Fin 25 := ⟨p.val % 25, by omega⟩

/-- The arguments the index pairs are made of: the labels and the matched rows. -/
abbrev refLabels : IVec S8x25 32 := V0 (Proc.devRef .tc main_arg3)
/-- The matched rows. -/
abbrev refMatched : IVec S8x25 32 := V0 (Proc.devRef .tc main_arg4)
/-- The predicted boxes. -/
abbrev refBoxes : Vec Ideal S8x900x4 .f32 := V0 (Proc.devRef .tc main_arg1)

/-- A pair's first index is its image. -/
theorem rowPairs_0 (p : Fin 200) : rowPairs V0 (ix2 p 0) = BitVec.ofNat 32 (imageOf p).val := by
  have e : rowPairs V0 (ix2 p 0) = Scalar.select (IntOp.cmpi .slt (BitVec.ofNat 32 (imageOf p).val) 0#32)
      (IntOp.addi (BitVec.ofNat 32 (imageOf p).val) 8#32) (BitVec.ofNat 32 (imageOf p).val) := by
    unfold rowPairs res_main_v3
    clean_types
    pointwise [imageOf]
  rw [e, Routing.wrap_of_lt]
  have := (imageOf p).isLt
  rw [BitVec.toNat_ofNat, Nat.mod_eq_of_lt (by omega)]
  omega

/-- Its second index is its matched row, that being in range. -/
theorem rowPairs_1 (p : Fin 200) (h : (refMatched V0 (ix2 (imageOf p) (placeOf p))).toNat < 900) :
    rowPairs V0 (ix2 p 1) = refMatched V0 (ix2 (imageOf p) (placeOf p)) := by
  have e : rowPairs V0 (ix2 p 1) = Scalar.select (IntOp.cmpi .slt (refMatched V0 (ix2 (imageOf p) (placeOf p))) 0#32)
      (IntOp.addi (refMatched V0 (ix2 (imageOf p) (placeOf p))) 900#32) (refMatched V0 (ix2 (imageOf p) (placeOf p))) := by
    unfold rowPairs res_main_v4
    clean_types
    pointwise [imageOf, placeOf]
  rw [e, Routing.wrap_of_lt]
  show _ < 2147483648
  omega

/-- A word below two to the 31 reads the same signed and unsigned. -/
theorem toInt_small (w : BitVec 32) (h : w.toNat < 2147483648) : w.toInt = (w.toNat : Int) := by
  rw [BitVec.toInt_eq_toNat_cond, if_pos (by omega)]

/-- The first index, as an integer. -/
theorem rowPairs_0_toInt (p : Fin 200) : (rowPairs V0 (ix2 p 0)).toInt = ((imageOf p).val : Int) := by
  have := (imageOf p).isLt
  have e : (BitVec.ofNat 32 (imageOf p).val).toNat = (imageOf p).val := by
    rw [BitVec.toNat_ofNat, Nat.mod_eq_of_lt (by omega)]
  rw [rowPairs_0, toInt_small _ (by omega), e]

/-! ## The gather -/

/-- The gathered row of pair `p`: the predicted box its matched row names. -/
theorem gathered (hs : ∀ j, (refMatched V0 j).toNat < 900) (p : Fin 200) (k : Fin 4) :
    (res_main_v76 V0 : Vec Ideal S200x4 .f32) (ix2 p k)
      = refBoxes V0 (ix3 (imageOf p) ⟨(refMatched V0 (ix2 (imageOf p) (placeOf p))).toNat, hs _⟩ k) := by
  have hm := hs (ix2 (imageOf p) (placeOf p))
  show Host.gather gather_S8x900x4_S200x2_S200x4_1_01_n_n_01_1_114 (refBoxes V0) (rowPairs V0) (ix2 p k) = _
  unfold Host.gather
  refine congrArg (refBoxes V0) (funext fun a => Fin.ext ?_)
  have hsi : ∀ q : Fin 2, GatherDims.siIdx gather_S8x900x4_S200x2_S200x4_1_01_n_n_01_1_114 (ix2 p k) q = ix2 p q := by
    intro q
    funext b
    match b with
    | ⟨0, _⟩ => rfl
    | ⟨1, _⟩ => rfl
  match a with
  | ⟨0, _⟩ =>
    show min (rowPairs V0 (GatherDims.siIdx gather_S8x900x4_S200x2_S200x4_1_01_n_n_01_1_114 (ix2 p k) (0 : Fin 2))).toInt.toNat 7 + 0 + 0 = (imageOf p).val
    rw [hsi, rowPairs_0_toInt]
    have := (imageOf p).isLt
    omega
  | ⟨1, _⟩ =>
    show min (rowPairs V0 (GatherDims.siIdx gather_S8x900x4_S200x2_S200x4_1_01_n_n_01_1_114 (ix2 p k) (1 : Fin 2))).toInt.toNat 899 + 0 + 0
      = (refMatched V0 (ix2 (imageOf p) (placeOf p))).toNat
    rw [hsi, rowPairs_1 V0 p hm, toInt_small _ (by omega)]
    omega
  | ⟨2, _⟩ =>
    show 0 + 0 + k.val = k.val
    omega

/-! ## The scatter -/

/-- The reference's class map. -/
def classMap : IVec S8x900 32 :=
  Host.scatter scatter_S8x900_S200x2_S200_n_01_01_1 (fun _ b => b)
    (broadcastInDim S8x900 ![] bcast_S_S8x900 (constantI S_ 32 91#32)) (rowPairs V0)
    (shapeCast S200 (refLabels V0) shapeCasts_S8x25_S200)

/-- Pair `p` writes query `(b, r)` exactly when it is of image `b` and matched to row `r`. -/
theorem lands (hs : ∀ j, (refMatched V0 j).toNat < 900) (p : Fin 200) (b : Fin 8) (r : Fin 900) :
    ScatterDims.resultIdx? scatter_S8x900_S200x2_S200_n_01_01_1 (ix1 p) (rowPairs V0) = some (ix2 b r)
      ↔ imageOf p = b ∧ refMatched V0 (ix2 (imageOf p) (placeOf p)) = BitVec.ofNat 32 r.val := by
  have hm := hs (ix2 (imageOf p) (placeOf p))
  have hr := r.isLt
  have hsi : ∀ q : Fin 2, ScatterDims.siIdx scatter_S8x900_S200x2_S200_n_01_01_1 (ix1 p) q = ix2 p q := by
    intro q
    funext b
    match b with
    | ⟨0, _⟩ => rfl
    | ⟨1, _⟩ => rfl
  refine (Routing.resultIdx?_ix2 scatter_S8x900_S200x2_S200_n_01_01_1 (ix1 p) (rowPairs V0) b r).trans ?_
  have e0 : ScatterDims.start scatter_S8x900_S200x2_S200_n_01_01_1 (ix1 p) (rowPairs V0) 0 = ((imageOf p).val : Int) := by
    rw [← rowPairs_0_toInt V0 p, ← hsi 0]
    rfl
  have e1 : ScatterDims.start scatter_S8x900_S200x2_S200_n_01_01_1 (ix1 p) (rowPairs V0) 1
      = ((refMatched V0 (ix2 (imageOf p) (placeOf p))).toNat : Int) := by
    rw [← toInt_small _ (by omega), ← rowPairs_1 V0 p hm, ← hsi 1]
    rfl
  refine (Iff.of_eq (congrArg₂ (fun (x y : Int) => x + ((0 : ℕ) : Int) = (b.val : Int) ∧ y + ((0 : ℕ) : Int) = (r.val : Int)) e0 e1)).trans ?_
  show ((imageOf p).val : Int) + ((0 : ℕ) : Int) = (b.val : Int) ∧ _ + ((0 : ℕ) : Int) = (r.val : Int) ↔ _
  rw [Fin.ext_iff, ← BitVec.toNat_inj, BitVec.toNat_ofNat, Nat.mod_eq_of_lt (by omega)]
  omega

/-- At a query the class map holds the label of the last pair matched to it, or 91 if none is. -/
theorem classMap_cases (hs : ∀ j, (refMatched V0 j).toNat < 900) (b : Fin 8) (r : Fin 900) :
    (∃ j : Fin 25, refMatched V0 (ix2 b j) = BitVec.ofNat 32 r.val
        ∧ (∀ j', j < j' → refMatched V0 (ix2 b j') ≠ BitVec.ofNat 32 r.val) ∧ classMap V0 (ix2 b r) = refLabels V0 (ix2 b j))
      ∨ ((∀ j : Fin 25, refMatched V0 (ix2 b j) ≠ BitVec.ofNat 32 r.val) ∧ classMap V0 (ix2 b r) = 91#32) := by
  have hpair : ∀ j : Fin 25, ∃ p : Fin 200, p.val = 25 * b.val + j.val ∧ imageOf p = b ∧ placeOf p = j := by
    intro j
    refine ⟨⟨25 * b.val + j.val, by omega⟩, rfl, Fin.ext ?_, Fin.ext ?_⟩
    · show (25 * b.val + j.val) / 25 = b.val
      omega
    · show (25 * b.val + j.val) % 25 = j.val
      omega
  have hsym : ∀ n : Fin 200, S200.rowMajor.symm n = ix1 n := fun n =>
    (S200.rowMajor.symm_apply_eq).2 (Fin.ext (by rw [Shape.rowMajor_val_one]; rfl))
  have hval : ∀ n : Fin 200, shapeCast S200 (refLabels V0) shapeCasts_S8x25_S200 (ix1 n) = refLabels V0 (ix2 (imageOf n) (placeOf n)) := by
    intro n
    pointwise [imageOf, placeOf]
  have e : classMap V0 (ix2 b r) = (List.finRange 200).foldl
      (fun a (n : Fin 200) => if imageOf n = b ∧ refMatched V0 (ix2 (imageOf n) (placeOf n)) = BitVec.ofNat 32 r.val
        then refLabels V0 (ix2 (imageOf n) (placeOf n)) else a) 91#32 := by
    unfold classMap
    rw [Routing.scatter_at]
    show (List.finRange 200).foldl _ (91#32) = _
    refine congrArg (fun f => (List.finRange 200).foldl f (91#32)) (funext fun a => funext fun n => ?_)
    refine if_congr ?_ ?_ rfl
    · exact (Iff.of_eq (congrArg (fun q => ScatterDims.resultIdx? scatter_S8x900_S200x2_S200_n_01_01_1 q (rowPairs V0) = some (ix2 b r)) (hsym n))).trans
        (lands V0 hs n b r)
    · exact (congrArg (shapeCast S200 (refLabels V0) shapeCasts_S8x25_S200) (hsym n)).trans (hval n)
  rw [e]
  rcases foldl_last_cases (fun n : Fin 200 => imageOf n = b ∧ refMatched V0 (ix2 (imageOf n) (placeOf n)) = BitVec.ofNat 32 r.val)
      (fun n => refLabels V0 (ix2 (imageOf n) (placeOf n))) (91#32) with ⟨k, ⟨hk, hw⟩, hl, ek⟩ | ⟨hn, e0⟩
  · subst hk
    refine .inl ⟨placeOf k, hw, fun j' hj' q => ?_, ek⟩
    obtain ⟨p, hp, hpi, hpp⟩ := hpair j'
    refine hl p ?_ ⟨hpi, by rw [hpi, hpp]; exact q⟩
    have h1 : k.val % 25 < j'.val := hj'
    have h2 : p.val = 25 * (k.val / 25) + j'.val := hp
    show k.val < p.val
    omega
  · refine .inr ⟨fun j q => ?_, e0⟩
    obtain ⟨p, -, hpi, hpp⟩ := hpair j
    exact hn p ⟨hpi, by rw [hpi, hpp]; exact q⟩

end Cert.Proof.Math

end
-- ==== Proof.Ideal.CeRef.lean ====
/-
  The reference's cross-entropy loss over the extended reals is the kernel's: its mean over the queries, summed, divided by
  the number of pairs and multiplied by the number of queries, is the sum over everything divided by the number of pairs.
-/
module

public import proofs.«01_k».proof.Proof.Ideal.CeValue
public import proofs.«01_k».proof.Proof.Ideal.RefIndex

@[expose] public section

set_option maxRecDepth 16384

noncomputable section

namespace Cert.Proof.Math

open Idealize.ShloMosaic Idealize.ShloMosaic.TcCoe Idealize.SL.Sem

/-! ## Sums scaled by a real -/

/-- A nonnegative real factor moves out of a sum. -/
theorem sum_mul_real {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (EReal.coe_nonneg.2 ha) (EReal.coe_ne_top a)]

/-- The larger of two hundred and one. -/
theorem max_200_one : max (Ideal.ofBits .f32 0x43480000#32) 1 = ((200 : ℝ) : EReal) := by
  rw [bits_200, ← EReal.coe_one, ← coe_max, max_eq_left (by norm_num)]

/-- The mean over 900, summed, over 200, times 900: the whole sum over 200. -/
theorem mean_sum (f : Fin 8 → Fin 91 → EReal) :
    Ideal.div (∑ b, ∑ c, Ideal.div (f b c) (Ideal.ofBits .f32 0x44610000#32)) (max (Ideal.ofBits .f32 0x43480000#32) 1)
        * Ideal.ofBits .f32 0x44610000#32
      = Ideal.div (∑ b, ∑ c, f b c) (Ideal.ofBits .f32 0x43480000#32) := by
  rw [max_200_one, bits_200, bits_900, Ideal.div_coe (by norm_num), Ideal.div_coe (by norm_num)]
  have e : ∀ x : EReal, Ideal.div x ((900 : ℝ) : EReal) = x * ((1 / 900 : ℝ) : EReal) := fun x => Ideal.div_coe (by norm_num) x
  simp only [e, sum_mul_real _ _ (1 / 900 : ℝ) (by norm_num)]
  rw [mul_assoc, mul_assoc, ← EReal.coe_mul, ← EReal.coe_mul]
  congr 2
  norm_num

/-! ## The reference's sum -/

section Ref

open Cert.ReferenceIdeal Cert.ReferenceIdeal.Gen Cert.ReferenceIdeal.Value

variable (V0 : Valuation τ sig (Elt Ideal))

/-- The three losses of the reference. -/
abbrev refOut : Vec Ideal S3 .f32 := val4 V0 (Proc.devRef .tc main_v193)
/-- The logits. -/
abbrev refLogits : Vec Ideal S8x900x91 .f32 := V0 (Proc.devRef .tc main_arg0)

/-- The one-hot value of a query's class at a column. -/
theorem oneHot_apply (b : Fin 8) (r : Fin 900) (c : Fin 91) :
    (res_main_v22 V0 : Vec Ideal S8x900x91 .f32) (ix3 b r c) = if classMap V0 (ix2 b r) = BitVec.ofNat 32 c.val then (1 : EReal) else 0 := by
  have e : (res_main_v22 V0 : Vec Ideal S8x900x91 .f32) (ix3 b r c)
      = (FloatOps.uitofp (F := Ideal) .f32 (IntOp.cmpi .eq (classMap V0 (ix2 b r)) (BitVec.ofNat 32 c.val)) : EReal) := by
    unfold res_main_v22
    clean_types
    pointwise
    rfl
  rw [e]
  by_cases h : classMap V0 (ix2 b r) = BitVec.ofNat 32 c.val
  · rw [if_pos h, (eq_iff _ _).2 h]
    show (((1#1 : BitVec 1).toNat : ℝ) : EReal) = 1
    simp
  · rw [if_neg h]
    have : IntOp.cmpi .eq (classMap V0 (ix2 b r)) (BitVec.ofNat 32 c.val) = 0#1 := by
      show BitVec.ofBool (_ == _) = _
      rw [beq_eq_false_iff_ne.2 h]
      rfl
    rw [this]
    show (((0#1 : BitVec 1).toNat : ℝ) : EReal) = 0
    simp

/-- The first loss, written out. -/
theorem refOut_0 : refOut V0 (ix1 0)
    = Ideal.div (∑ b : Fin 8, ∑ c : Fin 91, Ideal.div
          (∑ r : Fin 900, lossAt (refLogits V0 (ix3 b r c)) ((res_main_v22 V0 : Vec Ideal S8x900x91 .f32) (ix3 b r c)))
          (Ideal.ofBits .f32 0x44610000#32)) (max (Ideal.ofBits .f32 0x43480000#32) 1)
        * Ideal.ofBits .f32 0x44610000#32 := by
  have hz : (id (constant (F := Ideal) S_ .f32 0x00000000#32) : Vec Ideal S_ .f32) ix0 = (0 : EReal) := Ideal.ofBits_zero_f32
  unfold refOut
  rw [val4_main_v193]
  clean_types
  unfold lossAt sigmoid
  pointwise [res_main_v28, res_main_v0]
  simp only [hz]
  rfl

end Ref

/-! ## They agree -/

variable (m : (ℓ : Loc Cert.KernelIdeal.nD Cert.KernelIdeal.τ Cert.KernelIdeal.sig) → Buf (Elt Ideal) ℓ) (d : Dev Cert.KernelIdeal.nD)
  (V0 : Valuation Cert.ReferenceIdeal.τ Cert.ReferenceIdeal.sig (Elt Ideal))

/-- The reference's arguments are the kernel's. -/
structure SameArgs : Prop where
  logits : ∀ b r c, refLogits V0 (ix3 b r c) = Cert.Proof.Ideal.logits m d (ix3 b r c)
  boxes : ∀ b r k, refBoxes V0 (ix3 b r k) = Cert.Proof.Ideal.boxes m d (ix3 b r k)
  targets : ∀ b j k, (V0 (Proc.devRef .tc Cert.ReferenceIdeal.main_arg2) : Vec Ideal Cert.ReferenceIdeal.S8x25x4 .f32) (ix3 b j k)
    = Cert.Proof.Ideal.targets m d (ix3 b j k)
  labels : ∀ b j, refLabels V0 (ix2 b j) = Cert.Proof.Ideal.labels m d (ix2 b j)
  matched : ∀ b j, refMatched V0 (ix2 b j) = Cert.Proof.Ideal.matched m d (ix2 b j)

variable {m d V0}

/-- The reference's class map is the kernel's class words. -/
theorem classMap_eq (h : SameArgs m d V0) (hs : ∀ j, (refMatched V0 j).toNat < 900) (b : Fin 8) (r : Fin 900) :
    classMap V0 (ix2 b r)
      = word (fun j => Cert.Proof.Ideal.matched m d (ix2 b j)) (fun j => Cert.Proof.Ideal.labels m d (ix2 b j)) (BitVec.ofNat 32 r.val) := by
  rcases classMap_cases V0 hs b r with ⟨j, hj, hl, e⟩ | ⟨hn, e⟩
  · rw [e, h.labels]
    exact (word_last _ (fun j => Cert.Proof.Ideal.labels m d (ix2 b j)) _ j ((h.matched b j).symm.trans hj) fun j' lt q => hl j' lt ((h.matched b j').trans q)).symm
  · rw [e]
    exact (word_none _ _ _ fun j q => hn j ((h.matched b j).trans q)).symm

/-- One query's loss in one column is the same in both. -/
theorem cell_eq (h : SameArgs m d V0) (hs : ∀ j, (refMatched V0 j).toNat < 900) (b : Fin 8) (r : Fin 900) (c : Fin 91) :
    lossAt (refLogits V0 (ix3 b r c)) ((Cert.ReferenceIdeal.Value.res_main_v22 V0 : Vec Ideal Cert.ReferenceIdeal.S8x900x91 .f32) (ix3 b r c))
      = lossCell m d b r c := by
  rw [oneHot_apply, classMap_eq h hs, h.logits]
  unfold lossCell lossOfWord
  by_cases e : word (fun j => Cert.Proof.Ideal.matched m d (ix2 b j)) (fun j => Cert.Proof.Ideal.labels m d (ix2 b j)) (BitVec.ofNat 32 r.val)
      = BitVec.ofNat 32 c.val
  · rw [if_pos e, if_pos e.symm, lossAt_one]
  · rw [if_neg e, if_neg fun q => e q.symm, lossAt_zero]

/-- The first losses agree. -/
theorem ce_eq (h : SameArgs m d V0) (hs : ∀ j, (refMatched V0 j).toNat < 900) (o : Vec Ideal Cert.KernelIdeal.S32 .f32) :
    Cert.Proof.Ideal.threeOf (F := Ideal) (Cert.Proof.Ideal.ceOut (fun c b => Cert.Proof.Ideal.V1 m c b) d) o (ix1 0) = refOut V0 (ix1 0) := by
  have e : ∀ ce : Vec Ideal Cert.KernelIdeal.S1x91 .f32, Cert.Proof.Ideal.threeOf (F := Ideal) ce o (ix1 0)
      = Ideal.div (∑ k : Fin 1, ∑ c : Fin 91, ce (ix2 k c)) (Ideal.ofBits .f32 0x43480000#32) := by
    intro ce
    pointwise [Cert.Proof.Ideal.threeOf, Cert.Proof.Ideal.three, Cert.Proof.Ideal.meanOf]
  rw [e, refOut_0, mean_sum, Fin.sum_univ_one]
  simp only [ceOut_apply, cell_eq h hs]
  rw [Finset.sum_comm]

end Cert.Proof.Math

end
-- ==== Proof.Ideal.BoxLanes.lean ====
/-
  The SparseCore's 32 words over the extended reals: the first sixteen add up to the sum over the 200 matched pairs of the
  box distances, the last sixteen to the sum of the overlap losses.
-/
module

public import proofs.«01_k».proof.Proof.Ideal.CeRef

@[expose] public section

set_option maxRecDepth 16384

noncomputable section

namespace Cert.Proof.Math

open Idealize.ShloMosaic Idealize.ShloMosaic.TcCoe Idealize.SL.Sem
open Cert.KernelIdeal Cert.KernelIdeal.Gen
open Cert.Proof.Ideal (Eight accOf at1 boxOut eightAt kc l1Acc l1Of lossAcc lossOf pick rowsOf pairsOf times4 shift valid lanes)

/-! ## One pair -/

/-- The two ends of an interval of a centre and an extent. -/
def low (c w : EReal) : EReal := c - Ideal.ofBits .f32 0x3F000000#32 * w
/-- The higher end. -/
def high (c w : EReal) : EReal := c + Ideal.ofBits .f32 0x3F000000#32 * w

/-- The distance of two boxes: the four coordinates' absolute differences, added. -/
def dist (s t : Fin 4 → EReal) : EReal :=
  max (s 0 - t 0) (-(s 0 - t 0)) + max (s 1 - t 1) (-(s 1 - t 1)) + max (s 2 - t 2) (-(s 2 - t 2)) + max (s 3 - t 3) (-(s 3 - t 3))

/-- The length two intervals share, and the length of their hull, neither below zero. -/
def shared (a b c d : EReal) : EReal := max (min (high a b) (high c d) - max (low a b) (low c d)) 0
/-- The length of the hull of two intervals, not below zero. -/
def around (a b c d : EReal) : EReal := max (max (high a b) (high c d) - min (low a b) (low c d)) 0

/-- The area two boxes share, the area of their hull, and a box's own. -/
def sharedArea (s t : Fin 4 → EReal) : EReal := shared (s 0) (s 2) (t 0) (t 2) * shared (s 1) (s 3) (t 1) (t 3)
/-- The area of the hull of two boxes. -/
def aroundArea (s t : Fin 4 → EReal) : EReal := around (s 0) (s 2) (t 0) (t 2) * around (s 1) (s 3) (t 1) (t 3)
/-- A box's own area. -/
def ownArea (s : Fin 4 → EReal) : EReal := (high (s 0) (s 2) - low (s 0) (s 2)) * (high (s 1) (s 3) - low (s 1) (s 3))

/-- The area two boxes cover together. -/
def bothArea (s t : Fin 4 → EReal) : EReal := ownArea s + ownArea t - sharedArea s t

/-- One less the generalized intersection over union of two boxes. -/
def overlapLoss (s t : Fin 4 → EReal) : EReal :=
  1 - (Ideal.div (sharedArea s t) (bothArea s t) - Ideal.div (aroundArea s t - bothArea s t) (aroundArea s t))

/-- The four coordinates of a lane's predicted box, and of its target. -/
def srcLane (e : Eight Ideal) (x : Fin 16) : Fin 4 → EReal := ![e.scx (ix1 x), e.scy (ix1 x), e.sw (ix1 x), e.sh (ix1 x)]
/-- The four coordinates of a lane's target. -/
def tgtLane (e : Eight Ideal) (x : Fin 16) : Fin 4 → EReal := ![e.tcx (ix1 x), e.tcy (ix1 x), e.tw (ix1 x), e.th (ix1 x)]

/-- A lane's distance is its pair's. -/
theorem l1Of_apply (e : Eight Ideal) (x : Fin 16) : l1Of e (ix1 x) = dist (srcLane e x) (tgtLane e x) := rfl

/-- The constant one. -/
theorem bits_one : Ideal.ofBits .f32 0x3F800000#32 = 1 := Ideal.ofBits_one_f32

/-- A lane's loss is its pair's. -/
theorem lossOf_apply (e : Eight Ideal) (x : Fin 16) : lossOf e (ix1 x) = overlapLoss (srcLane e x) (tgtLane e x) := by
  have hz : (kc (F := Ideal) 0x00000000#32) (ix1 x) = (0 : EReal) := Ideal.ofBits_zero_f32
  have ho : (kc (F := Ideal) 0x3F800000#32) (ix1 x) = (1 : EReal) := bits_one
  have eo : ∀ a b c d : FVec Ideal S16 .f32, Cert.Proof.Ideal.overlap (Cert.Proof.Ideal.lo a b) (Cert.Proof.Ideal.hi a b) (Cert.Proof.Ideal.lo c d) (Cert.Proof.Ideal.hi c d) (ix1 x)
      = shared (a (ix1 x)) (b (ix1 x)) (c (ix1 x)) (d (ix1 x)) := by
    intro a b c d
    unfold shared
    rw [← hz]
    rfl
  have eh : ∀ a b c d : FVec Ideal S16 .f32, Cert.Proof.Ideal.hull (Cert.Proof.Ideal.lo a b) (Cert.Proof.Ideal.hi a b) (Cert.Proof.Ideal.lo c d) (Cert.Proof.Ideal.hi c d) (ix1 x)
      = around (a (ix1 x)) (b (ix1 x)) (c (ix1 x)) (d (ix1 x)) := by
    intro a b c d
    unfold around
    rw [← hz]
    rfl
  have ei : Cert.Proof.Ideal.interOf e (ix1 x) = sharedArea (srcLane e x) (tgtLane e x) := congrArg₂ (· * ·) (eo _ _ _ _) (eo _ _ _ _)
  have ea : Cert.Proof.Ideal.hullOf e (ix1 x) = aroundArea (srcLane e x) (tgtLane e x) := congrArg₂ (· * ·) (eh _ _ _ _) (eh _ _ _ _)
  have eu : Cert.Proof.Ideal.unionOf e (ix1 x) = bothArea (srcLane e x) (tgtLane e x) :=
    congrArg (fun z => ownArea (srcLane e x) + ownArea (tgtLane e x) - z) ei
  show (kc (F := Ideal) 0x3F800000#32) (ix1 x)
      - (Ideal.div (Cert.Proof.Ideal.interOf e (ix1 x)) (Cert.Proof.Ideal.unionOf e (ix1 x))
        - Ideal.div (Cert.Proof.Ideal.hullOf e (ix1 x) - Cert.Proof.Ideal.unionOf e (ix1 x)) (Cert.Proof.Ideal.hullOf e (ix1 x))) = _
  rw [ho, ei, ea, eu]
  rfl

/-! ## Which pair a lane holds -/

variable {m : (ℓ : Loc nD τ sig) → Buf (Elt Ideal) ℓ} {d : Dev nD}

/-- The predicted box of pair `p`, -/
def srcBox (hm : Cert.Proof.Ideal.MatchedOK (Cert.Proof.Ideal.matched m d)) (p : Fin 200) : Fin 4 → EReal := fun k =>
  Cert.Proof.Ideal.boxes m d (ix3 (imageOf p) ⟨(Cert.Proof.Ideal.matched m d (ix2 (imageOf p) (placeOf p))).toNat, hm _⟩ k)
/-- and its target. -/
def tgtBox (m : (ℓ : Loc nD τ sig) → Buf (Elt Ideal) ℓ) (d : Dev nD) (p : Fin 200) : Fin 4 → EReal := fun k =>
  Cert.Proof.Ideal.targets m d (ix3 (imageOf p) (placeOf p) k)

/-- The index at a position in range. -/
theorem at1_eq (n : ℕ) (hn : 0 < n) (k : ℕ) (hk : k < n) : at1 n hn k = ix1 ⟨k, hk⟩ :=
  (Cert.Proof.Ideal.at1_ext hn (ix1 ⟨k, hk⟩) rfl).symm

/-- A word of the flat predicted boxes. -/
theorem flatBoxes (b : Fin 8) (r : Fin 900) (k : Fin 4) :
    (Cert.Proof.Ideal.V3 m d (Proc.devRef .tc main_v14) : Vec Ideal S28800 .f32) (at1 28800 (by decide) (4 * (900 * b.val + r.val) + k.val))
      = Cert.Proof.Ideal.boxes m d (ix3 b r k) := by
  rw [Cert.Proof.Ideal.V3_v14, at1_eq _ _ _ (by omega)]
  pointwise

/-- A word of the flat targets. -/
theorem flatTargets (p : Fin 200) (k : Fin 4) :
    (Cert.Proof.Ideal.V3 m d (Proc.devRef .tc main_v13) : Vec Ideal S832 .f32) (at1 832 (by decide) (4 * p.val + k.val)) = tgtBox m d p k := by
  rw [Cert.Proof.Ideal.V3_v13, at1_eq _ _ _ (by omega)]
  pointwise
  rw [dif_pos (by omega)]
  unfold tgtBox
  congr 1
  funext a
  fin_cases a <;> (apply Fin.ext; simp [imageOf, placeOf]; try omega)

/-- A row number. -/
theorem rowWord (hm : Cert.Proof.Ideal.MatchedOK (Cert.Proof.Ideal.matched m d)) (p : Fin 200) :
    ((Cert.Proof.Ideal.V3 m d (Proc.devRef .tc main_v11) : IVec S208 32) (at1 208 (by decide) p.val)).toNat
      = 900 * (imageOf p).val + (Cert.Proof.Ideal.matched m d (ix2 (imageOf p) (placeOf p))).toNat := by
  rw [Cert.Proof.Ideal.V3_v11, at1_eq _ _ _ (by omega), ← Cert.Proof.Ideal.flatRows_toNat m d hm]
  pointwise
  rfl

/-- The three arrays the working subcore fetches. -/
abbrev fS (m : (ℓ : Loc nD τ sig) → Buf (Elt Ideal) ℓ) (d : Dev nD) : Vec Ideal S28800 .f32 := Cert.Proof.Ideal.V3 m d (Proc.devRef .tc main_v14)
/-- The flat targets, padded. -/
abbrev fT (m : (ℓ : Loc nD τ sig) → Buf (Elt Ideal) ℓ) (d : Dev nD) : Vec Ideal S832 .f32 := Cert.Proof.Ideal.V3 m d (Proc.devRef .tc main_v13)
/-- The row numbers, padded. -/
abbrev fX (m : (ℓ : Loc nD τ sig) → Buf (Elt Ideal) ℓ) (d : Dev nD) : IVec S208 32 := Cert.Proof.Ideal.V3 m d (Proc.devRef .tc main_v11)

/-- A word gathered from the predicted boxes. -/
theorem gatherS_apply (hm : Cert.Proof.Ideal.MatchedOK (Cert.Proof.Ideal.matched m d)) (n : ℕ) (x : Fin 16) (hp : 16 * n + x.val < 200)
    (k : Fin 4) (c : BitVec 32) (hc : c.toNat = k.val) :
    pick (F := Ideal) (e := .f32) 28800 (by decide) (fS m d) (shift (times4 (rowsOf (F := Ideal) (fX m d) n)) c) (ix1 x) = srcBox hm ⟨16 * n + x.val, hp⟩ k := by
  unfold pick
  rw [Cert.Proof.Ideal.posS_toNat (F := Ideal) (fX m d) (Cert.Proof.Ideal.rowsOK_of m d hm) n c (by omega), hc]
  have e : (rowsOf (F := Ideal) (fX m d) n (ix1 x)).toNat = _ := rowWord hm ⟨16 * n + x.val, hp⟩
  rw [e]
  exact flatBoxes (imageOf ⟨16 * n + x.val, hp⟩) ⟨_, hm _⟩ k

/-- A word gathered from the targets. -/
theorem gatherT_apply (n : ℕ) (x : Fin 16) (hp : 16 * n + x.val < 200) (k : Fin 4) (c : BitVec 32) (hc : c.toNat = k.val) :
    pick (F := Ideal) (e := .f32) 832 (by decide) (fT m d) (shift (times4 (pairsOf n)) c) (ix1 x) = tgtBox m d ⟨16 * n + x.val, hp⟩ k := by
  unfold pick
  rw [Cert.Proof.Ideal.posT_toNat n (by omega) c (by omega), hc]
  exact flatTargets ⟨16 * n + x.val, hp⟩ k

/-- Lane `x` of round `n` holds pair `16 n + x`. -/
theorem srcLane_eq (hm : Cert.Proof.Ideal.MatchedOK (Cert.Proof.Ideal.matched m d)) (n : ℕ) (x : Fin 16) (hp : 16 * n + x.val < 200) :
    srcLane (eightAt (fS m d) (fT m d) (fX m d) n) x = srcBox hm ⟨16 * n + x.val, hp⟩ := by
  funext k
  fin_cases k
  · exact gatherS_apply hm n x hp 0 0#32 rfl
  · exact gatherS_apply hm n x hp 1 1#32 rfl
  · exact gatherS_apply hm n x hp 2 2#32 rfl
  · exact gatherS_apply hm n x hp 3 3#32 rfl

/-- So does its target. -/
theorem tgtLane_eq (n : ℕ) (x : Fin 16) (hp : 16 * n + x.val < 200) :
    tgtLane (eightAt (fS m d) (fT m d) (fX m d) n) x = tgtBox m d ⟨16 * n + x.val, hp⟩ := by
  funext k
  fin_cases k
  · exact gatherT_apply n x hp 0 0#32 rfl
  · exact gatherT_apply n x hp 1 1#32 rfl
  · exact gatherT_apply n x hp 2 2#32 rfl
  · exact gatherT_apply n x hp 3 3#32 rfl

/-! ## Adding the lanes up -/

/-- A function of the pairs, zero past the last. -/
def padded (g : Fin 200 → EReal) (q : ℕ) : EReal := if h : q < 200 then g ⟨q, h⟩ else 0

/-- At a pair it is the function itself, -/
theorem padded_of (g : Fin 200 → EReal) (q : ℕ) (h : q < 200) : padded g q = g ⟨q, h⟩ := by
  unfold padded
  exact dif_pos h

/-- and past the last pair it is zero. -/
theorem padded_past (g : Fin 200 → EReal) (q : ℕ) (h : 200 ≤ q) : padded g q = 0 := by
  unfold padded
  exact dif_neg (by omega)

/-- Sixteen lanes of thirteen rounds: every pair once. -/
theorem sum_lanes (g : Fin 200 → EReal) :
    ∑ x : Fin 16, ∑ n ∈ Finset.range 13, padded g (16 * n + x.val) = ∑ p : Fin 200, g p := by
  have h : ∀ N : ℕ, ∑ q ∈ Finset.range (16 * N), padded g q = ∑ n ∈ Finset.range N, ∑ x : Fin 16, padded g (16 * n + x.val) := by
    intro N
    induction N with
    | zero => rfl
    | succ N ih =>
      rw [Nat.mul_succ, Finset.sum_range_add, ih, Finset.sum_range (fun x => padded g (16 * N + x))]
      exact (Finset.sum_range_succ _ N).symm
  rw [Finset.sum_comm, ← h, show 16 * 13 = 200 + 8 from rfl, Finset.sum_range_add, Finset.sum_range]
  have z : ∑ x ∈ Finset.range 8, padded g (200 + x) = 0 := Finset.sum_eq_zero fun x _ => padded_past g _ (by omega)
  rw [z, add_zero]
  exact Finset.sum_congr rfl fun p _ => padded_of g p.val p.isLt

/-- The last round's live lanes are the first eight. -/
theorem valid_apply (x : Fin 16) : valid (ix1 x) = 1#1 ↔ x.val < 8 := by
  have e : valid (ix1 x) = IntOp.cmpi .slt (IntOp.addi (BitVec.ofNat 32 x.val) 192#32) 200#32 := by
    unfold valid shift lanes
    pointwise
  rw [e]
  revert x
  decide

/-- An accumulation of twelve full rounds and a masked one, at one lane. -/
theorem acc_lane (g : Fin 200 → EReal) (x : Fin 16) (a : ℕ → EReal) (f : ℕ → EReal) (h0 : a 0 = 0) (hs : ∀ n, a (n + 1) = a n + f n)
    (hf : ∀ n (hp : 16 * n + x.val < 200), f n = g ⟨16 * n + x.val, hp⟩) :
    a 12 + Scalar.select (valid (ix1 x)) (f 12) 0 = ∑ n ∈ Finset.range 13, padded g (16 * n + x.val) := by
  have ha : ∀ n, n ≤ 12 → a n = ∑ k ∈ Finset.range n, padded g (16 * k + x.val) := by
    intro n
    induction n with
    | zero => intro _; rw [h0]; rfl
    | succ n ih =>
      intro hn
      have hp : 16 * n + x.val < 200 := by omega
      rw [hs, ih (by omega), hf n hp, ← padded_of g _ hp]
      exact (Finset.sum_range_succ (fun k => padded g (16 * k + x.val)) n).symm
  rw [ha 12 le_rfl]
  refine Eq.trans (congrArg (_ + ·) ?_) (Finset.sum_range_succ (fun k => padded g (16 * k + x.val)) 12).symm
  by_cases hx : x.val < 8
  · have hp : 16 * 12 + x.val < 200 := by omega
    rw [select_pos ((valid_apply x).2 hx), hf 12 hp]
    exact (padded_of g _ hp).symm
  · rw [select_neg fun q => hx ((valid_apply x).1 q)]
    exact (padded_past g _ (by omega)).symm

/-- The two kernel sums. -/
theorem l1_lanes (hm : Cert.Proof.Ideal.MatchedOK (Cert.Proof.Ideal.matched m d)) (x : Fin 16) :
    l1Acc (fS m d) (fT m d) (fX m d) (ix1 x)
      = ∑ n ∈ Finset.range 13, padded (fun p => dist (srcBox hm p) (tgtBox m d p)) (16 * n + x.val) := by
  have hz : (kc (F := Ideal) 0x00000000#32) (ix1 x) = (0 : EReal) := Ideal.ofBits_zero_f32
  refine Eq.trans ?_ (acc_lane (fun p => dist (srcBox hm p) (tgtBox m d p)) x (fun n => (accOf (fS m d) (fT m d) (fX m d) n).1 (ix1 x))
    (fun n => l1Of (eightAt (fS m d) (fT m d) (fX m d) n) (ix1 x)) hz (fun _ => rfl)
    fun n hp => by rw [l1Of_apply, srcLane_eq hm n x hp, tgtLane_eq n x hp])
  rw [← hz]
  rfl

/-- A lane's second accumulator is the sum of its pairs' overlap losses. -/
theorem loss_lanes (hm : Cert.Proof.Ideal.MatchedOK (Cert.Proof.Ideal.matched m d)) (x : Fin 16) :
    lossAcc (fS m d) (fT m d) (fX m d) (ix1 x)
      = ∑ n ∈ Finset.range 13, padded (fun p => overlapLoss (srcBox hm p) (tgtBox m d p)) (16 * n + x.val) := by
  have hz : (kc (F := Ideal) 0x00000000#32) (ix1 x) = (0 : EReal) := Ideal.ofBits_zero_f32
  refine Eq.trans ?_ (acc_lane (fun p => overlapLoss (srcBox hm p) (tgtBox m d p)) x (fun n => (accOf (fS m d) (fT m d) (fX m d) n).2 (ix1 x))
    (fun n => lossOf (eightAt (fS m d) (fT m d) (fX m d) n) (ix1 x)) hz (fun _ => rfl)
    fun n hp => by rw [lossOf_apply, srcLane_eq hm n x hp, tgtLane_eq n x hp])
  rw [← hz]
  rfl

/-- The 32 words: two runs of sixteen lanes. -/
theorem boxOut_low (x : Fin 16) (h : x.val < 32) :
    boxOut (F := Ideal) (fS m d) (fT m d) (fX m d) (ix1 ⟨x.val, h⟩) = l1Acc (fS m d) (fT m d) (fX m d) (ix1 x) := by
  have e : boxOut (F := Ideal) (fS m d) (fT m d) (fX m d) (ix1 ⟨x.val, h⟩)
      = if x.val < 16 then l1Acc (F := Ideal) (fS m d) (fT m d) (fX m d) (at1 16 (by decide) x.val)
        else lossAcc (F := Ideal) (fS m d) (fT m d) (fX m d) (at1 16 (by decide) (x.val - 16)) := by
    unfold boxOut
    rfl
  rw [e, if_pos x.isLt, at1_eq 16 (by decide) x.val x.isLt]

/-- The last sixteen words are the second accumulator's lanes. -/
theorem boxOut_high (x : Fin 16) (h : 16 + x.val < 32) :
    boxOut (F := Ideal) (fS m d) (fT m d) (fX m d) (ix1 ⟨16 + x.val, h⟩) = lossAcc (fS m d) (fT m d) (fX m d) (ix1 x) := by
  have e : boxOut (F := Ideal) (fS m d) (fT m d) (fX m d) (ix1 ⟨16 + x.val, h⟩)
      = if 16 + x.val < 16 then l1Acc (F := Ideal) (fS m d) (fT m d) (fX m d) (at1 16 (by decide) (16 + x.val))
        else lossAcc (F := Ideal) (fS m d) (fT m d) (fX m d) (at1 16 (by decide) (16 + x.val - 16)) := by
    unfold boxOut
    rfl
  rw [e, if_neg (by omega), Nat.add_sub_cancel_left, at1_eq 16 (by decide) x.val x.isLt]

/-- What the SparseCore call returns. -/
theorem boxIn_out : (Cert.Proof.Ideal.boxIn m).out d = boxOut (F := Ideal) (fS m d) (fT m d) (fX m d) := rfl

/-- The kernel's second result: the mean distance. -/
theorem kernel_1 (hm : Cert.Proof.Ideal.MatchedOK (Cert.Proof.Ideal.matched m d)) (ce : Vec Ideal S1x91 .f32) :
    Cert.Proof.Ideal.threeOf (F := Ideal) ce ((Cert.Proof.Ideal.boxIn m).out d) (ix1 1)
      = Ideal.div (∑ p : Fin 200, dist (srcBox hm p) (tgtBox m d p)) (Ideal.ofBits .f32 0x43480000#32) := by
  have e : ∀ o : Vec Ideal S32 .f32, Cert.Proof.Ideal.threeOf (F := Ideal) ce o (ix1 1)
      = Ideal.div (∑ x : Fin 16, o (ix1 ⟨x.val, by omega⟩)) (Ideal.ofBits .f32 0x43480000#32) := by
    intro o
    pointwise [Cert.Proof.Ideal.threeOf, Cert.Proof.Ideal.three, Cert.Proof.Ideal.meanOf]
  rw [boxIn_out, e, ← sum_lanes]
  refine congrArg (fun z => Ideal.div z (Ideal.ofBits .f32 0x43480000#32)) (Finset.sum_congr rfl fun x _ => ?_)
  exact (boxOut_low x _).trans (l1_lanes hm x)

/-- The kernel's third result: the mean overlap loss. -/
theorem kernel_2 (hm : Cert.Proof.Ideal.MatchedOK (Cert.Proof.Ideal.matched m d)) (ce : Vec Ideal S1x91 .f32) :
    Cert.Proof.Ideal.threeOf (F := Ideal) ce ((Cert.Proof.Ideal.boxIn m).out d) (ix1 2)
      = Ideal.div (∑ p : Fin 200, overlapLoss (srcBox hm p) (tgtBox m d p)) (Ideal.ofBits .f32 0x43480000#32) := by
  have e : ∀ o : Vec Ideal S32 .f32, Cert.Proof.Ideal.threeOf (F := Ideal) ce o (ix1 2)
      = Ideal.div (∑ x : Fin 16, o (ix1 ⟨16 + x.val, by omega⟩)) (Ideal.ofBits .f32 0x43480000#32) := by
    intro o
    pointwise [Cert.Proof.Ideal.threeOf, Cert.Proof.Ideal.three, Cert.Proof.Ideal.meanOf]
  rw [boxIn_out, e, ← sum_lanes]
  refine congrArg (fun z => Ideal.div z (Ideal.ofBits .f32 0x43480000#32)) (Finset.sum_congr rfl fun x _ => ?_)
  exact (boxOut_high x _).trans (loss_lanes hm x)

end Cert.Proof.Math

end
-- ==== Proof.Ideal.BoxRef.lean ====
/-
  The reference's two box losses over the extended reals are the kernel's.
-/
module

public import proofs.«01_k».proof.Proof.Ideal.BoxLanes

@[expose] public section

set_option maxRecDepth 16384

noncomputable section

namespace Cert.Proof.Math

open Idealize.ShloMosaic Idealize.ShloMosaic.TcCoe Idealize.SL.Sem

section Ref

open Cert.ReferenceIdeal Cert.ReferenceIdeal.Gen Cert.ReferenceIdeal.Value

variable (V0 : Valuation τ sig (Elt Ideal))

/-- The target boxes. -/
abbrev refTargets : Vec Ideal S8x25x4 .f32 := V0 (Proc.devRef .tc main_arg2)
/-- The gathered predicted boxes, and the flat targets. -/
abbrev refSrc : Vec Ideal S200x4 .f32 := res_main_v76 V0
/-- The flat targets. -/
abbrev refTgt : Vec Ideal S200x4 .f32 := res_main_v77 V0
/-- Their corners. -/
abbrev refSrcCorners : Vec Ideal S200x4 .f32 := res_main_v106 V0
/-- The targets' corners. -/
abbrev refTgtCorners : Vec Ideal S200x4 .f32 := res_main_v131 V0
/-- The lengths shared, and those of the hulls. -/
abbrev refShared : Vec Ideal S200x2 .f32 := res_main_v161 V0
/-- The lengths of the hulls. -/
abbrev refAround : Vec Ideal S200x2 .f32 := res_main_v177 V0

/-- A pair's predicted box, as the reference gathers it, and its target. -/
def refSrcBox (p : Fin 200) : Fin 4 → EReal := fun k => refSrc V0 (ix2 p k)
/-- A pair's target. -/
def refTgtBox (p : Fin 200) : Fin 4 → EReal := fun k => refTgt V0 (ix2 p k)

/-- A word of the flat targets is its target's coordinate. -/
theorem refTgt_apply (p : Fin 200) (k : Fin 4) : refTgt V0 (ix2 p k) = refTargets V0 (ix3 (imageOf p) (placeOf p) k) := by
  unfold refTgt res_main_v77
  clean_types
  pointwise
  try rfl

/-- The corners of a predicted box: its centre less and plus half its extents. -/
theorem srcCorners_apply (p : Fin 200) :
    refSrcCorners V0 (ix2 p 0) = low (refSrcBox V0 p 0) (refSrcBox V0 p 2) ∧ refSrcCorners V0 (ix2 p 1) = low (refSrcBox V0 p 1) (refSrcBox V0 p 3)
      ∧ refSrcCorners V0 (ix2 p 2) = high (refSrcBox V0 p 0) (refSrcBox V0 p 2) ∧ refSrcCorners V0 (ix2 p 3) = high (refSrcBox V0 p 1) (refSrcBox V0 p 3) := by
  unfold refSrcCorners res_main_v106 res_main_v83 res_main_v85 res_main_v87 res_main_v89 low high refSrcBox
  clean_types
  refine ⟨?_, ?_, ?_, ?_⟩ <;> (pointwise; try rfl)

/-- The corners of a target, likewise. -/
theorem tgtCorners_apply (p : Fin 200) :
    refTgtCorners V0 (ix2 p 0) = low (refTgtBox V0 p 0) (refTgtBox V0 p 2) ∧ refTgtCorners V0 (ix2 p 1) = low (refTgtBox V0 p 1) (refTgtBox V0 p 3)
      ∧ refTgtCorners V0 (ix2 p 2) = high (refTgtBox V0 p 0) (refTgtBox V0 p 2) ∧ refTgtCorners V0 (ix2 p 3) = high (refTgtBox V0 p 1) (refTgtBox V0 p 3) := by
  unfold refTgtCorners res_main_v131 res_main_v108 res_main_v110 res_main_v112 res_main_v114 low high refTgtBox
  clean_types
  refine ⟨?_, ?_, ?_, ?_⟩ <;> (pointwise; try rfl)

/-- The two lengths a pair of boxes shares. -/
theorem refShared_apply (p : Fin 200) :
    refShared V0 (ix2 p 0) = shared (refSrcBox V0 p 0) (refSrcBox V0 p 2) (refTgtBox V0 p 0) (refTgtBox V0 p 2)
      ∧ refShared V0 (ix2 p 1) = shared (refSrcBox V0 p 1) (refSrcBox V0 p 3) (refTgtBox V0 p 1) (refTgtBox V0 p 3) := by
  have hz : (id (constant (F := Ideal) S_ .f32 0x00000000#32) : Vec Ideal S_ .f32) ix0 = (0 : EReal) := Ideal.ofBits_zero_f32
  obtain ⟨s0, s1, s2, s3⟩ := srcCorners_apply V0 p
  obtain ⟨t0, t1, t2, t3⟩ := tgtCorners_apply V0 p
  unfold shared
  rw [← s0, ← s1, ← s2, ← s3, ← t0, ← t1, ← t2, ← t3, max_comm _ (0 : EReal), max_comm _ (0 : EReal), ← hz]
  unfold refShared res_main_v161
  clean_types
  refine ⟨?_, ?_⟩ <;> (pointwise; try rfl)

/-- The two lengths of a pair's hull. -/
theorem refAround_apply (p : Fin 200) :
    refAround V0 (ix2 p 0) = around (refSrcBox V0 p 0) (refSrcBox V0 p 2) (refTgtBox V0 p 0) (refTgtBox V0 p 2)
      ∧ refAround V0 (ix2 p 1) = around (refSrcBox V0 p 1) (refSrcBox V0 p 3) (refTgtBox V0 p 1) (refTgtBox V0 p 3) := by
  have hz : (id (constant (F := Ideal) S_ .f32 0x00000000#32) : Vec Ideal S_ .f32) ix0 = (0 : EReal) := Ideal.ofBits_zero_f32
  obtain ⟨s0, s1, s2, s3⟩ := srcCorners_apply V0 p
  obtain ⟨t0, t1, t2, t3⟩ := tgtCorners_apply V0 p
  unfold around
  rw [← s0, ← s1, ← s2, ← s3, ← t0, ← t1, ← t2, ← t3, max_comm _ (0 : EReal), max_comm _ (0 : EReal), ← hz]
  unfold refAround res_main_v177
  clean_types
  refine ⟨?_, ?_⟩ <;> (pointwise; try rfl)

/-- The second loss, written out. -/
theorem refOut_1 : refOut V0 (ix1 1)
    = Ideal.div (∑ p : Fin 200, dist (refSrcBox V0 p) (refTgtBox V0 p)) (Ideal.ofBits .f32 0x43480000#32) := by
  have e : refOut V0 (ix1 1) = Ideal.div (∑ p : Fin 200, ∑ k : Fin 4,
      max (refSrcBox V0 p k - refTgtBox V0 p k) (-(refSrcBox V0 p k - refTgtBox V0 p k))) (max (Ideal.ofBits .f32 0x43480000#32) 1) := by
    unfold refOut
    rw [val4_main_v193]
    clean_types
    unfold refSrcBox refTgtBox
    pointwise [res_main_v77, res_main_v0]
    rfl
  rw [e, max_200_one, bits_200]
  simp only [Fin.sum_univ_four]
  rfl

/-- The third loss, written out. -/
theorem refOut_2 : refOut V0 (ix1 2)
    = Ideal.div (∑ p : Fin 200, overlapLoss (refSrcBox V0 p) (refTgtBox V0 p)) (Ideal.ofBits .f32 0x43480000#32) := by
  have e : refOut V0 (ix1 2) = Ideal.div (∑ p : Fin 200, overlapLoss (refSrcBox V0 p) (refTgtBox V0 p)) (max (Ideal.ofBits .f32 0x43480000#32) 1) := by
    unfold refOut
    rw [val4_main_v193]
    clean_types
    unfold overlapLoss bothArea ownArea sharedArea aroundArea
    simp only [← (srcCorners_apply V0 _).1, ← (srcCorners_apply V0 _).2.1, ← (srcCorners_apply V0 _).2.2.1, ← (srcCorners_apply V0 _).2.2.2,
      ← (tgtCorners_apply V0 _).1, ← (tgtCorners_apply V0 _).2.1, ← (tgtCorners_apply V0 _).2.2.1, ← (tgtCorners_apply V0 _).2.2.2,
      ← (refShared_apply V0 _).1, ← (refShared_apply V0 _).2, ← (refAround_apply V0 _).1, ← (refAround_apply V0 _).2]
    pointwise [res_main_v166, res_main_v168, res_main_v182, res_main_v0]
    try rfl
  rw [e, max_200_one, bits_200]

end Ref

/-! ## They agree -/

variable {m : (ℓ : Loc Cert.KernelIdeal.nD Cert.KernelIdeal.τ Cert.KernelIdeal.sig) → Buf (Elt Ideal) ℓ} {d : Dev Cert.KernelIdeal.nD}
  {V0 : Valuation Cert.ReferenceIdeal.τ Cert.ReferenceIdeal.sig (Elt Ideal)}

/-- A pair's predicted box is the same in both, -/
theorem refSrcBox_eq (h : SameArgs m d V0) (hm : Cert.Proof.Ideal.MatchedOK (Cert.Proof.Ideal.matched m d))
    (hs : ∀ j, (refMatched V0 j).toNat < 900) (p : Fin 200) : refSrcBox V0 p = srcBox hm p := by
  funext k
  refine (gathered V0 hs p k).trans ((h.boxes _ _ _).trans ?_)
  exact congrArg (fun r => Cert.Proof.Ideal.boxes m d (ix3 (imageOf p) r k)) (Fin.ext (congrArg BitVec.toNat (h.matched _ _)))

/-- and so is its target. -/
theorem refTgtBox_eq (h : SameArgs m d V0) (p : Fin 200) : refTgtBox V0 p = tgtBox m d p := by
  funext k
  exact (refTgt_apply V0 p k).trans (h.targets _ _ _)

/-- From equal arguments whose matched rows are rows of their images, the kernel's three results are the reference's. -/
theorem results_eq (h : SameArgs m d V0) (hm : Cert.Proof.Ideal.MatchedOK (Cert.Proof.Ideal.matched m d)) :
    Cert.Proof.Ideal.threeOf (F := Ideal) (Cert.Proof.Ideal.ceOut (fun c b => Cert.Proof.Ideal.V1 m c b) d) ((Cert.Proof.Ideal.boxIn m).out d) = refOut V0 := by
  have hs : ∀ j, (refMatched V0 j).toNat < 900 := by
    intro j
    idx_vars j
    exact (congrArg BitVec.toNat (h.matched _ _)).trans_lt (hm _)
  funext j
  idx_vars j
  fin_cases j0
  · exact ce_eq h hs _
  · refine (kernel_1 hm _).trans ?_
    refine Eq.trans ?_ (refOut_1 V0).symm
    simp only [refSrcBox_eq h hm hs, refTgtBox_eq h]
  · refine (kernel_2 hm _).trans ?_
    refine Eq.trans ?_ (refOut_2 V0).symm
    simp only [refSrcBox_eq h hm hs, refTgtBox_eq h]

end Cert.Proof.Math

end
-- ==== Proof.lean ====
/-
  The certificate's claims: the three programs' frames, and the equality of the kernel's and the reference's results over
  the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_src_in_range
public import proofs.«01_k».proof.Proof.Ideal.Values
public import proofs.«01_k».proof.Proof.Bits.Values
public import proofs.«01_k».proof.Proof.Ideal.BoxRef
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- Every element type has a value, over bit patterns, -/
instance : ∀ e, Nonempty (Elt Bits e) := fun e => by cases e <;> exact ⟨0#_⟩
/-- and over the extended reals. -/
instance : ∀ e, Nonempty (Elt Ideal e) := fun e => by cases e <;> first | exact ⟨0#_⟩ | exact ⟨(0 : EReal)⟩

/-- The kernel over bit patterns, from matched rows in range: it ends, its arguments unchanged, its counters at zero. -/
theorem frame_kernel : Cert.quiescent_Kernel := fun m g h =>
  (θ_run (Cert.Kernel.defs (F := Bits)) (Cert.Kernel.threads (F := Bits)) _).mono (fun _ hr => ⟨fun c => (hr.1 c).2, hr.2⟩)
    (Bits.run_value (F := Bits) m g fun d => Bits.matchedOK_of_pre _ _ _ _ _ (h d))

/-- The kernel over the extended reals, likewise. -/
theorem frame_ideal : Cert.quiescent_KernelIdeal := fun m g h =>
  (θ_run (Cert.KernelIdeal.defs (F := Ideal)) (Cert.KernelIdeal.threads (F := Ideal)) _).mono (fun _ hr => ⟨fun c => (hr.1 c).2, hr.2⟩)
    (Ideal.run_value (F := Ideal) m g fun d => Ideal.matchedOK_of_pre _ _ _ _ _ (h d))

/-- The reference over the extended reals: it ends, its arguments unchanged; it has no counters. -/
theorem frame_ref : Cert.quiescent_ReferenceIdeal := fun m g _ =>
  (θ_run (Cert.ReferenceIdeal.defs (F := Ideal)) _ _).mono
    (fun r hr => ⟨fun c => (hr c).2, sem_eq_zero_of_no_sems (by decide) r.2⟩)
    (Cert.ReferenceIdeal.Value.run (F := Ideal) m g)

/-- The same under the kernel's precondition, which it does not need. -/
theorem frame_ref_pre : Cert.quiescent_ReferenceIdeal_pre_src_in_range := fun m g _ => frame_ref m g trivial

/-- From arguments that agree and matched rows in range, the kernel and the reference over the extended reals both end, their
    results equal and their arguments unchanged. -/
theorem equal_ideal : Cert.algebraic_KernelIdeal_ReferenceIdeal := fun m g m' g' h agree => by
  have hm : ∀ d, Ideal.MatchedOK (Ideal.matched m d) := fun d => Ideal.matchedOK_of_pre _ _ _ _ _ (h d)
  have same : ∀ c : Dev Cert.KernelIdeal.nD, Math.SameArgs m c (launchContents m' c) := fun c =>
    ⟨fun _ _ _ => congrFun (agree c).1 _, fun _ _ _ => congrFun (agree c).2.1 _, fun _ _ _ => congrFun (agree c).2.2.1 _,
      fun _ _ => congrFun (agree c).2.2.2.1 _, fun _ _ => congrFun (agree c).2.2.2.2 _⟩
  refine ⟨fun c => Ideal.threeOf (F := Ideal) (Ideal.ceOut (fun c b => Ideal.V1 m c b) c) ((Ideal.boxIn m).out c), ?_, ?_⟩
  · exact (θ_run (Cert.KernelIdeal.defs (F := Ideal)) (Cert.KernelIdeal.threads (F := Ideal)) _).mono (fun _ hr => hr.1)
      (Ideal.run_value (F := Ideal) m g hm)
  · exact (θ_run (Cert.ReferenceIdeal.defs (F := Ideal)) _ _).mono
      (fun _ hr c => ⟨(hr c).1.trans ((Cert.ReferenceIdeal.Value.val4_main_v193 (launchContents m' c)).symm.trans
        (Math.results_eq (same c) (hm c)).symm), (hr c).2⟩)
      (Cert.ReferenceIdeal.Value.run (F := Ideal) m' g')

/-- Everything the certificate claims. -/
theorem claim : Cert.Claim :=
  ⟨Cert.Kernel.Gen.facts, Cert.KernelIdeal.Gen.facts, Cert.ReferenceIdeal.Gen.facts, Cert.Pre_src_in_range.Gen.facts,
    frame_kernel, frame_ideal, frame_ref, frame_ref_pre, trivial, equal_ideal⟩

end Cert.Proof

end
